-- ==== Defs.lean ====
def Pre_Kernel [hPre_in_vocab : Cert.Pre_in_vocab.Facts] (m : (ℓ : Loc Cert.Kernel.nD Cert.Kernel.τ Cert.Kernel.sig) → Buf (Elt Bits) ℓ) : Prop :=
  ∀ c : Dev Cert.Kernel.nD,
    (Cert.Pre_in_vocab.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_vocab : Cert.Pre_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_Reference (m : (ℓ : Loc Cert.Reference.nD Cert.Reference.τ Cert.Reference.sig) → Buf (Elt Bits) ℓ) : Prop :=
  True

def Pre_Reference_in_vocab [hPre_in_vocab : Cert.Pre_in_vocab.Facts] (m : (ℓ : Loc Cert.Reference.nD Cert.Reference.τ Cert.Reference.sig) → Buf (Elt Bits) ℓ) : Prop :=
  ∀ c : Dev Cert.Reference.nD,
    (Cert.Pre_in_vocab.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocab [hPre_in_vocab : Cert.Pre_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_vocab : Cert.Pre_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_in_vocab [hReference : Cert.Reference.Facts] [hPre_in_vocab : Cert.Pre_in_vocab.Facts] : Prop :=
  ∀ (m : (ℓ : Loc Cert.Reference.nD Cert.Reference.τ Cert.Reference.sig) → Buf (Elt Bits) ℓ) (g : Dev Cert.Reference.nD → PrngReg), Pre_Reference_in_vocab m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_vocab [hReferenceIdeal : Cert.ReferenceIdeal.Facts] [hPre_in_vocab : Cert.Pre_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_in_vocab : Cert.Pre_in_vocab.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v2)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReference : Cert.Reference.Facts) (hReferenceIdeal : Cert.ReferenceIdeal.Facts) (hPre_in_vocab : Cert.Pre_in_vocab.Facts),
    quiescent_Kernel (hKernel := hKernel) (hPre_in_vocab := hPre_in_vocab)
    ∧ quiescent_KernelIdeal (hKernelIdeal := hKernelIdeal) (hPre_in_vocab := hPre_in_vocab)
    ∧ quiescent_Reference (hReference := hReference)
    ∧ quiescent_Reference_pre_in_vocab (hReference := hReference) (hPre_in_vocab := hPre_in_vocab)
    ∧ quiescent_ReferenceIdeal (hReferenceIdeal := hReferenceIdeal)
    ∧ quiescent_ReferenceIdeal_pre_in_vocab (hReferenceIdeal := hReferenceIdeal) (hPre_in_vocab := hPre_in_vocab)
    ∧ preserves_Kernel_KernelIdeal
    ∧ algebraic_KernelIdeal_ReferenceIdeal (hKernelIdeal := hKernelIdeal) (hReferenceIdeal := hReferenceIdeal) (hPre_in_vocab := hPre_in_vocab)
    ∧ bitexact_Kernel_Reference (hKernel := hKernel) (hReference := hReference) (hPre_in_vocab := hPre_in_vocab)
-- ==== Pre_in_vocab.lean ====
abbrev S4096x200 : Shape := ⟨2, ![4096, 200]⟩
abbrev S100000x128 : Shape := ⟨2, ![100000, 128]⟩
abbrev S_ : Shape := ⟨0, ![]⟩

class Facts : Prop where
  bcast_S_S4096x200 : S_.BroadcastsInDim S4096x200 (![] : Fin 0 → Fin S4096x200.rank)
  reducesTo_S4096x200_S_d0_1 : S4096x200.ReducesTo [0, 1] S_
  h_S_ : 0 < S_.numel

variable [Facts]

def fn {F : FTy → Type} [FloatOps F] (main_arg0 : IVec S4096x200 32) (main_arg1 : FVec F S100000x128 .f32) : IVec S_ 1 :=
  let main_c : IVec S_ 32 := constantI S_ 32 0#32
  let main_v0 : IVec S4096x200 32 := broadcastInDim S4096x200 ![] bcast_S_S4096x200 main_c
  let main_v1 : IVec S4096x200 1 := cmpi .sge main_arg0 main_v0
  let main_c_0 : IVec S_ 32 := constantI S_ 32 100000#32
  let main_v2 : IVec S4096x200 32 := broadcastInDim S4096x200 ![] bcast_S_S4096x200 main_c_0
  let main_v3 : IVec S4096x200 1 := cmpi .slt main_arg0 main_v2
  let main_v4 : IVec S4096x200 1 := andi main_v1 main_v3
  let main_c_1 : IVec S_ 1 := constantI S_ 1 1#1
  let main_v5 : IVec S_ 1 := (fun x v => Host.reduce IntOp.andi x v reducesTo_S4096x200_S_d0_1 h_S_) main_v4 main_c_1
  main_v5
-- ==== Kernel.lean ====
abbrev S4096x200 : Shape := ⟨2, ![4096, 200]⟩
abbrev S100000x128 : Shape := ⟨2, ![100000, 128]⟩
abbrev S819200 : Shape := ⟨1, ![819200]⟩
abbrev S819200x128 : Shape := ⟨2, ![819200, 128]⟩
abbrev S25600 : Shape := ⟨1, ![25600]⟩
abbrev S256x128 : Shape := ⟨2, ![256, 128]⟩
abbrev S_ : Shape := ⟨0, ![]⟩
abbrev S256 : Shape := ⟨1, ![256]⟩
abbrev S4096x200x128 : Shape := ⟨3, ![4096, 200, 128]⟩

abbrev nBuf : Table → Nat
  | .hbm => 5
  | .local .scVector .vmem => 3
  | _ => 0

abbrev bufTy : (tb : Table) → Fin (nBuf tb) → BufTy
  | .hbm, ⟨0, _⟩ => ⟨S4096x200, .i32⟩
  | .hbm, ⟨1, _⟩ => ⟨S100000x128, .f32⟩
  | .hbm, ⟨2, _⟩ => ⟨S819200, .i32⟩
  | .hbm, ⟨3, _⟩ => ⟨S819200x128, .f32⟩
  | .hbm, ⟨4, _⟩ => ⟨S4096x200x128, .f32⟩
  | .local .scVector .vmem, ⟨0, _⟩ => ⟨S25600, .i32⟩
  | .local .scVector .vmem, ⟨1, _⟩ => ⟨S256x128, .f32⟩
  | .local .scVector .vmem, ⟨2, _⟩ => ⟨S256x128, .f32⟩
  | _, _ => ⟨S4096x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  ![v2.toNat]
@[reducible] def k0_t1_loop : Scf.Loop 32 :=
  let c0_i32_5 : BitVec 32 := 0#32
  let c49_i32 : BitVec 32 := 49#32
  let v7 : BitVec 32 := Scalar.addi c0_i32_5 c49_i32
  let c1_i32 : BitVec 32 := 1#32
  ⟨c0_i32_5, v7, c1_i32⟩
def k0_off2 (i : grid0.Coords) (k0_t1 : Fin k0_t1_loop.trips) (c0_i32_25 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_5 : BitVec 32 := 0#32
  let c1_i32 : BitVec 32 := 1#32
  let arg12 : BitVec 32 := Scf.iv c0_i32_5 c1_i32 k0_t1
  let c2_i32_21 : BitVec 32 := 2#32
  let v22 : BitVec 32 := Scalar.muli arg12 c2_i32_21
  let v25 : BitVec 32 := Scalar.addi v22 c0_i32_25
  let c256_i32_26 : BitVec 32 := 256#32
  let v26 : BitVec 32 := Scalar.muli v25 c256_i32_26
  let v27 : BitVec 32 := Scalar.addi v2 v26
  let c0_i32_27 : BitVec 32 := 0#32
  ![v27.toNat, 0]
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_36 : BitVec 32 := 0#32
  ![v2.toNat, 0]
def k0_off4 (k0_t1 : Fin k0_t1_loop.trips) (c0_i32_38 : BitVec 32) : Fin 1 → Nat :=
  let c0_i32_5 : BitVec 32 := 0#32
  let c1_i32 : BitVec 32 := 1#32
  let arg12 : BitVec 32 := Scf.iv c0_i32_5 c1_i32 k0_t1
  let c2_i32_21 : BitVec 32 := 2#32
  let v22 : BitVec 32 := Scalar.muli arg12 c2_i32_21
  let v39 : BitVec 32 := Scalar.addi v22 c0_i32_38
  let c2_i32_39 : BitVec 32 := 2#32
  let v40 : BitVec 32 := Scalar.addi v39 c2_i32_39
  let c256_i32_40 : BitVec 32 := 256#32
  let v41 : BitVec 32 := Scalar.muli v40 c256_i32_40
  ![v41.toNat]
def k0_off5 (i : grid0.Coords) (c25088_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let v10 : BitVec 32 := Scalar.addi v2 c25088_i32
  let c0_i32_10 : BitVec 32 := 0#32
  ![v10.toNat, 0]
def k0_off6 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_17 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S4096x200 : Shape := ⟨2, ![4096, 200]⟩
abbrev S100000x128 : Shape := ⟨2, ![100000, 128]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x128 : Shape := ⟨3, ![4096, 200, 128]⟩

abbrev nBuf : Space → Nat
  | .hbm => 25
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S100000x128, .f32⟩
  | .hbm, ⟨2, _⟩ => ⟨S_, .i32⟩
  | .hbm, ⟨3, _⟩ => ⟨S4096x200, .i32⟩
  | .hbm, ⟨4, _⟩ => ⟨S4096x200, .i1⟩
  | .hbm, ⟨5, _⟩ => ⟨S_, .i32⟩
  | .hbm, ⟨6, _⟩ => ⟨S4096x200, .i32⟩
  | .hbm, ⟨7, _⟩ => ⟨S4096x200, .i32⟩
  | .hbm, ⟨8, _⟩ => ⟨S4096x200, .i32⟩
  | .hbm, ⟨9, _⟩ => ⟨S4096x200x1, .i32⟩
  | .hbm, ⟨10, _⟩ => ⟨S1, .i32⟩
  | .hbm, ⟨11, _⟩ => ⟨S_, .i32⟩
  | .hbm, ⟨12, _⟩ => ⟨S4096x200x1, .i32⟩
  | .hbm, ⟨13, _⟩ => ⟨S4096x200x1, .i1⟩
  | .hbm, ⟨14, _⟩ => ⟨S1x1x1, .i32⟩
  | .hbm, ⟨15, _⟩ => ⟨S4096x200x1, .i32⟩
  | .hbm, ⟨16, _⟩ => ⟨S4096x200x1, .i1⟩
  | .hbm, ⟨17, _⟩ => ⟨S4096x200x1, .i1⟩
  | .hbm, ⟨18, _⟩ => ⟨S_, .i1⟩
  | .hbm, ⟨19, _⟩ => ⟨S4096x200, .i1⟩
  | .hbm, ⟨20, _⟩ => ⟨S4096x200x128, .f32⟩
  | .hbm, ⟨21, _⟩ => ⟨S4096x200x128, .i1⟩
  | .hbm, ⟨22, _⟩ => ⟨S_, .f32⟩
  | .hbm, ⟨23, _⟩ => ⟨S4096x200x128, .f32⟩
  | .hbm, ⟨24, _⟩ => ⟨S4096x200x128, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Carry.lean ====
/-
  A transfer under way can take more along than what it delivers: whatever its owner leaves with it comes back at its wait.
-/
module

public import Idealize.ShloMosaic.Lib.Transfers
public import Idealize.ShloMosaic.Lib.Tactic

@[expose] public section

noncomputable section

namespace Cert.Proof.Carry

open Idealize.ShloMosaic Idealize.ShloMosaic.Transfers
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix] {Val : EltTy → Type} {Name : Type} [DecidableEq Name]
variable {U : Type} [URA U] {Lvl : Type} [Preorder Lvl]

local notation "𝕄" => MT nD τ sig Ix Val Name U Lvl

/-- A transfer that delivers `D`, with `X` held beside it, is a transfer that delivers both. -/
theorem flight_with (EC : UEmb Counters 𝕄) (c : Thread nD τ) {sm : SemLoc sig} {ι : Ix} {N : ℕ} {D X : sProp 𝕄} :
    iprop(Flight EC c sm ι N D ∗ X) ⊢ Flight EC c sm ι N iprop(D ∗ X) := by
  unfold Flight
  iintro ⟨⟨⟨%R, HR, %hlow, %hzero⟩, Hcred⟩, HX⟩
  isplitr [Hcred]
  · iexists iprop(R ∗ X)
    isplitl [HR HX]
    · isplitl [HR]; · iexact HR
      iexact HX
    isplit <;> ipureintro <;> intro K
    · refine BIBase.Entails.trans ?_ (hlow K)
      iintro ⟨⟨HR, HX⟩, HK⟩
      isplitl [HR]; · iexact HR
      iintro ⟨Hv, HD⟩
      iapply HK
      isplitl [Hv]; · iexact Hv
      isplitl [HD]; · iexact HD
      iexact HX
    · refine BIBase.Entails.trans ?_ (hzero K)
      iintro ⟨⟨HR, HX⟩, HK⟩
      isplitl [HR]; · iexact HR
      iintro HR
      iapply HK
      isplitl [HR]; · iexact HR
      iexact HX
  · iexact Hcred

end Cert.Proof.Carry

end
-- ==== Proof.Take.lean ====
/-
  The mathematics of the operation: the rows of a table taken at an array of indices, the index range as the precondition states it, and the
  reference's term read as that function.
-/
module

public import proofs.«01_k».proof.Proof.Gen.Pre_in_vocab
public import proofs.«01_k».proof.Proof.Gen.Reference.Run
public import Idealize.ShloMosaic.Lib.ReduceAll

@[expose] public section

noncomputable section

namespace Cert.Proof.Take

open Idealize.ShloMosaic

variable {F : FTy → Type}

/-- The shapes of the indices, the table and the result. -/
abbrev Words : Shape := ⟨2, ![4096, 200]⟩
abbrev Table : Shape := ⟨2, ![100000, 128]⟩
abbrev Rows : Shape := ⟨3, ![4096, 200, 128]⟩

/-- The place of the index that row `(a, b)` of the result is taken at. -/
def place (a : Fin 4096) (b : Fin 200) : Words.Idx := fun | 0 => a | 1 => b
/-- Entry `k` of the table's row that an index word names. -/
def entry (w : BitVec 32) (k : Fin 128) : Table.Idx := fun | 0 => ⟨w.toNat % 100000, Nat.mod_lt _ (by decide)⟩ | 1 => k

/-- THE RESULT: entry `(a, b, k)` is entry `k` of the table's row named by index `(a, b)`. -/
def take (I : Words.Idx → Elt F .i32) (T : Table.Idx → Elt F .f32) : Rows.Idx → Elt F .f32 :=
  fun y => T (entry (I (place (y 0) (y 1))) (y 2))

/-! ## The index range -/

/-- A word that compares at least 0 and below 100000 as a signed number is a number below 100000. -/
theorem small_of_compares (w : BitVec 32) (h₀ : IntOp.cmpi .sge w 0#32 = 1#1) (h₁ : IntOp.cmpi .slt w 100000#32 = 1#1) : w.toNat < 100000 := by
  have one (p : Bool) : BitVec.ofBool p = 1#1 ↔ p = true := by cases p <;> decide
  simp only [IntOp.cmpi, one, BitVec.sle_eq_decide, BitVec.slt_eq_decide, decide_eq_true_eq, BitVec.toInt_eq_toNat_cond,
    BitVec.toNat_ofNat, Nat.reducePow, Nat.reduceMod] at h₀ h₁
  omega

/-- The precondition gives the range of every index. -/
theorem small_of_pre [FloatOps F] (I : IVec Words 32) (T : FVec F Table .f32)
    (h : Cert.Pre_in_vocab.fn (F := F) I T = fun _ => 1#1) (y : Words.Idx) : (I y).toNat < 100000 := by
  have : Subsingleton Cert.Pre_in_vocab.S_.Idx := ⟨fun _ _ => funext fun a => a.elim0⟩
  have e := Host.reduce_andi_all _ _ _ _ (fun a => a.elim0) (congrFun h (fun a => a.elim0)) y
  obtain ⟨h₀, h₁⟩ := IntOp.andi_eq_one.1 e
  exact small_of_compares _ h₀ h₁

/-! ## The reference's term -/

section Reference
open Cert.Reference Cert.Reference.Gen

/-- An index in range is not wrapped. -/
theorem unwrapped (w : BitVec 32) (h : w.toNat < 100000) : IntOp.cmpi .slt w 0#32 = 0#1 := by
  have zero (p : Bool) : BitVec.ofBool p = 0#1 ↔ p = false := by cases p <;> decide
  simp only [IntOp.cmpi, zero, BitVec.slt_eq_decide, decide_eq_false_iff_not, BitVec.toInt_eq_toNat_cond,
    BitVec.toNat_ofNat, Nat.reducePow, Nat.reduceMod]
  omega

/-- An index in range passes both of the reference's range tests. -/
theorem kept (w : BitVec 32) (h : w.toNat < 100000) : IntOp.andi (IntOp.cmpi .sge w 0#32) (IntOp.cmpi .sle w 99999#32) = 1#1 := by
  have one (p : Bool) : BitVec.ofBool p = 1#1 ↔ p = true := by cases p <;> decide
  rw [IntOp.andi_eq_one]
  simp only [IntOp.cmpi, one, BitVec.sle_eq_decide, decide_eq_true_eq, BitVec.toInt_eq_toNat_cond,
    BitVec.toNat_ofNat, Nat.reducePow, Nat.reduceMod]
  omega

/-- An index in range, read as a signed number and clamped to the table's rows, is itself. -/
theorem clamped (w : BitVec 32) (h : w.toNat < 100000) : min w.toInt.toNat 99999 = w.toNat % 100000 := by
  rw [Nat.mod_eq_of_lt h]
  simp only [BitVec.toInt_eq_toNat_cond, Nat.reducePow]
  omega

/-- The reference's gather at indices in range: entry `(a, b, k)` is entry `k` of the row that the index column's `(a, b)` names. -/
theorem gather_apply (T : FVec F Table .f32) (J : IVec S4096x200x1 32) (y : Rows.Idx) (w : BitVec 32)
    (hJ : ∀ z : S4096x200x1.Idx, (z 0).val = (y 0).val → (z 1).val = (y 1).val → J z = w) (hw : w.toNat < 100000) :
    Host.gather gather_S100000x128_S4096x200x1_S4096x200x128_2_0_n_n_0_2_1128 T J y = T (entry w (y 2)) := by
  let d := gather_S100000x128_S4096x200x1_S4096x200x128_2_0_n_n_0_2_1128
  have hb (a : Fin 2) : d.batchCoord y a = 0 := d.batchCoord_eq_zero y a List.not_mem_nil
  unfold Host.gather
  congr 1
  funext a
  apply Fin.ext
  show d.start y J a + d.batchCoord y a + d.offCoord y a = (entry w (y 2) a).val
  rw [hb, Nat.add_zero]
  match a with
  | 0 =>
    rw [d.offCoord_eq_zero y 0 (by decide), Nat.add_zero]
    have hm : (0 : Fin 2) ∈ d.startIndexMap := List.mem_singleton.2 rfl
    show (if ha : (0 : Fin 2) ∈ d.startIndexMap then _ else _) = w.toNat % 100000
    rw [dif_pos hm, hJ _ rfl rfl]
    exact clamped w hw
  | 1 =>
    have hs : d.start y J 1 = 0 := dif_neg (by decide)
    rw [hs, Nat.zero_add]
    rfl

/-- The reference's index column: the indices, a negative one counted from the end of the table. -/
def column (I : IVec S4096x200 32) : IVec S4096x200x1 32 :=
  broadcastInDim S4096x200x1 ![0, 1] bcast_S4096x200_S4096x200x1_0_1
    (select (cmpi .slt I (broadcastInDim S4096x200 ![] bcast_S_S4096x200 (constantI S_ 32 0#32)))
      (addi I (broadcastInDim S4096x200 ![] bcast_S_S4096x200 (constantI S_ 32 100000#32))) I)

/-- The reference's mask: which indices of a column name a row. -/
def mask (J : IVec S4096x200x1 32) : IVec S4096x200 1 :=
  Host.reduce IntOp.andi
    (andi (cmpi .sge J (broadcastInDim S4096x200x1 ![] bcast_S_S4096x200x1 (constantI S_ 32 0#32)))
      (cmpi .sle J (broadcastInDim S4096x200x1 ![0, 1, 2] bcast_S1x1x1_S4096x200x1_0_1_2
        (broadcastInDim S1x1x1 ![2] bcast_S1_S1x1x1_2 (constantI S1 32 99999#32)))))
    (constantI S_ 1 1#1) reducesTo_S4096x200x1_S4096x200_d2 h_S_

variable (I : IVec S4096x200 32) (hI : ∀ y, (I y).toNat < 100000)
include hI

/-- The column holds the indices themselves. -/
theorem column_apply (z : S4096x200x1.Idx) : column I z = I (place (z 0) (z 1)) := by
  have e : column I z = Scalar.select (IntOp.cmpi .slt (I (place (z 0) (z 1))) 0#32) (IntOp.addi (I (place (z 0) (z 1))) 100000#32)
      (I (place (z 0) (z 1))) := by
    have hp : (fun a => if h1 : S4096x200.size a = 1 then ⟨0, by omega⟩
        else ⟨(z ((![0, 1] : Fin 2 → Fin 3) a)).val, by
          match a with
          | 0 => exact (z 0).isLt
          | 1 => exact (z 1).isLt⟩ : S4096x200.Idx) = place (z 0) (z 1) := by
      funext a
      match a with
      | 0 => rfl
      | 1 => rfl
    rw [← hp]
    rfl
  rw [e, unwrapped _ (hI _)]
  rfl

/-- The mask is 1 everywhere. -/
theorem mask_one (j : S4096x200.Idx) : mask (column I) j = 1#1 :=
  Host.reduce_andi_one _ _ _ _ j rfl fun i => by
    show IntOp.andi (IntOp.cmpi .sge (column I i) 0#32) (IntOp.cmpi .sle (column I i) 99999#32) = 1#1
    rw [column_apply I hI]
    exact kept _ (hI _)

/-- The reference's result is the rows taken, whatever it would put where an index is out of range. -/
theorem reference_take (T : FVec F S100000x128 .f32) (N : FVec F S4096x200x128 .f32) :
    select (broadcastInDim S4096x200x128 ![0, 1] bcast_S4096x200_S4096x200x128_0_1 (mask (column I)))
        (Host.gather gather_S100000x128_S4096x200x1_S4096x200x128_2_0_n_n_0_2_1128 T (column I)) N
      = take (F := F) I T := by
  funext y
  show Scalar.select (mask (column I) _) (Host.gather _ T (column I) y) (N y) = _
  rw [mask_one I hI, gather_apply T (column I) y (I (place (y 0) (y 1))) _ (hI _)]
  · rfl
  · intro z h₀ h₁
    rw [column_apply I hI]
    congr 2
    · exact Fin.ext h₀
    · exact Fin.ext h₁

end Reference

end Cert.Proof.Take

end
-- ==== Proof.KernelIdealChunks.lean ====
/-
  The chunks of the gather, their places in the arrays, and the values that belong there.

  Tile `i` of SparseCore `c` has the 25600 rows of the result from row `51200 * i + 25600 * c` on, and works them in 50 rounds of two
  chunks of 256 rows: round `g`'s chunk for buffer `b` starts `512 * g + 256 * b` rows in.
-/
module

public import proofs.«01_k».proof.Proof.Gen.KernelIdeal
public import proofs.«01_k».proof.Proof.Gen.KernelIdeal.Skeleton
public import proofs.«01_k».proof.Proof.Carry
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ShareLeaves
public import Idealize.ShloMosaic.Lib.Tactic

@[expose] public section

noncomputable section

namespace Cert.Proof.KernelIdeal

open Cert.KernelIdeal Cert.KernelIdeal.Gen
open Idealize.ShloMosaic

variable {F : FTy → Type}

/-! ## The arrays as the kernel names them -/

/-- The flattened indices, -/
abbrev iM : Memref sig .scVector .hbm S819200 .i32 := Memref.whole main_v0_scv
/-- the table, -/
abbrev xM : Memref sig .scVector .hbm S100000x128 .f32 := Memref.whole main_arg1_scv
/-- the result's rows, -/
abbrev oM : Memref sig .scVector .hbm S819200x128 .f32 := Memref.whole main_v1_scv
/-- a tile's own list of indices, -/
abbrev sM : Memref sig .scVector .vmem S25600 .i32 := Memref.whole cc0_scratch0
/-- and its two row buffers. -/
abbrev rA : Memref sig .scVector .vmem S256x128 .f32 := Memref.whole cc0_scratch1
abbrev rB : Memref sig .scVector .vmem S256x128 .f32 := Memref.whole cc0_scratch2
/-- The table as each gather addresses it: all of it. -/
abbrev xAll : Memref sig .scVector .hbm S100000x128 .f32 :=
  xM.slice (Rect.unit (s := S100000x128) ![0, 0] S100000x128.size inb_S100000x128_S100000x128_0_0) (fun _ => rfl)

/-! ## Where the chunks lie -/

/-- The first row of tile `(c, i)`'s part of the result. -/
def base (c : Fin 2) (i : Fin 16) : ℕ := 51200 * i.val + 25600 * c.val

/-- How far into a tile's part round `g`'s chunk for buffer `b` starts. -/
def skip (g : Fin 50) (b : Fin 2) : ℕ := 512 * g.val + 256 * b.val

/-- A tile's part ends within the result. -/
theorem base_le (c : Fin 2) (i : Fin 16) : base c i + 25600 ≤ 819200 := by unfold base; omega
/-- A chunk ends within its tile's part. -/
theorem skip_le (g : Fin 50) (b : Fin 2) : skip g b + 256 ≤ 25600 := by unfold skip; omega

/-- The chunk's rectangle in the result, -/
theorem outInb (c : Fin 2) (i : Fin 16) (g : Fin 50) (b : Fin 2) :
    ∀ a, (![base c i + skip g b, 0] : Fin 2 → ℕ) a + S256x128.size a ≤ S819200x128.size a := fun a => by
  have h₁ := base_le c i; have h₂ := skip_le g b
  match a with
  | 0 => show base c i + skip g b + 256 ≤ 819200; omega
  | 1 => show 0 + 128 ≤ 128; omega
/-- its stretch of the tile's list, -/
theorem lstInb (g : Fin 50) (b : Fin 2) : ∀ a, (![skip g b] : Fin 1 → ℕ) a + S256.size a ≤ S25600.size a := fun a => by
  have h₂ := skip_le g b
  match a with
  | 0 => show skip g b + 256 ≤ 25600; omega
/-- and the tile's stretch of the indices are inside their arrays. -/
theorem idxInb (c : Fin 2) (i : Fin 16) : ∀ a, (![base c i] : Fin 1 → ℕ) a + S25600.size a ≤ S819200.size a := fun a => by
  have h₁ := base_le c i
  match a with
  | 0 => show base c i + 25600 ≤ 819200; omega

/-- The chunk in the result, -/
abbrev outW (c : Fin 2) (i : Fin 16) (g : Fin 50) (b : Fin 2) : Memref sig .scVector .hbm S256x128 .f32 :=
  oM.slice (Rect.unit (s := S819200x128) ![base c i + skip g b, 0] S256x128.size (outInb c i g b)) (fun _ => rfl)
/-- its indices in the tile's list, -/
abbrev lstW (g : Fin 50) (b : Fin 2) : Memref sig .scVector .vmem S256 .i32 :=
  sM.slice (Rect.unit (s := S25600) ![skip g b] S256.size (lstInb g b)) (fun _ => rfl)
/-- and the tile's list in the flattened indices. -/
abbrev idxW (c : Fin 2) (i : Fin 16) : Memref sig .scVector .hbm S25600 .i32 :=
  iM.slice (Rect.unit (s := S819200) ![base c i] S25600.size (idxInb c i)) (fun _ => rfl)

/-- The rows of the result in a chunk. -/
abbrev outSet (c : Fin 2) (i : Fin 16) (g : Fin 50) (b : Fin 2) : Finset S819200x128.Idx := (outW c i g b).view.set

/-- An element of the result is in a chunk when its row is. -/
theorem mem_outSet {c : Fin 2} {i : Fin 16} {g : Fin 50} {b : Fin 2} {y : S819200x128.Idx} :
    y ∈ outSet c i g b ↔ base c i + skip g b ≤ (y 0).val ∧ (y 0).val < base c i + skip g b + 256 := by
  have e : outSet c i g b = (Rect.unit (s := S819200x128) ![base c i + skip g b, 0] S256x128.size (outInb c i g b)).set :=
    View.set_slice_whole _ _
  rw [e, Rect.mem_set_unit]
  constructor
  · intro h; exact h 0
  · intro h a
    match a with
    | 0 => exact h
    | 1 => exact ⟨Nat.zero_le _, by show (y 1).val < 0 + 128; have := (y 1).isLt; have e : S819200x128.size 1 = 128 := rfl; omega⟩

/-- A chunk's name: core, tile, round, buffer. -/
abbrev Name4 : Type := Fin 2 × Fin 16 × Fin 50 × Fin 2

/-- Two chunks share no element. -/
theorem outSet_disjoint : ∀ p ∈ (Finset.univ : Finset Name4), ∀ q ∈ (Finset.univ : Finset Name4), p ≠ q →
    Disjoint (outSet p.1 p.2.1 p.2.2.1 p.2.2.2) (outSet q.1 q.2.1 q.2.2.1 q.2.2.2) := by
  rintro ⟨c, i, g, b⟩ - ⟨c', i', g', b'⟩ - hne
  rw [Finset.disjoint_left]
  intro y h h'
  rw [mem_outSet] at h h'
  unfold base skip at h h'
  refine hne ?_
  have e₁ : c = c' := by apply Fin.ext; simp only at h h'; omega
  have e₂ : i = i' := by apply Fin.ext; simp only at h h'; omega
  have e₃ : g = g' := by apply Fin.ext; simp only at h h'; omega
  have e₄ : b = b' := by apply Fin.ext; simp only at h h'; omega
  rw [e₁, e₂, e₃, e₄]

/-- Together the chunks are the whole result. -/
theorem outSet_cover : (Finset.univ : Finset Name4).biUnion (fun p => outSet p.1 p.2.1 p.2.2.1 p.2.2.2) = Finset.univ := by
  refine Finset.eq_univ_of_forall fun y => ?_
  have hy : (y 0).val < 819200 := (y 0).isLt
  rw [Finset.mem_biUnion]
  refine ⟨(⟨(y 0).val / 25600 % 2, by omega⟩, ⟨(y 0).val / 51200, by omega⟩, ⟨(y 0).val % 25600 / 512, by omega⟩,
    ⟨(y 0).val % 512 / 256, by omega⟩), Finset.mem_univ _, ?_⟩
  rw [mem_outSet]
  unfold base skip
  simp only
  omega

/-! ## The values -/

/-- The row of the table an index word names (the words are all in range by the precondition; the remainder makes it total). -/
def rowAt (w : BitVec 32) : Fin 100000 := ⟨w.toNat % 100000, Nat.mod_lt _ (by decide)⟩

/-- The `n`-th place of the flattened indices. -/
def nth (n : Fin 819200) : S819200.Idx := fun a => match a with | 0 => n

/-- The gathered rows: row `n` is the table's row named by the `n`-th index. -/
def gath (I : S819200.Idx → Elt F .i32) (T : S100000x128.Idx → Elt F .f32) : S819200x128.Idx → Elt F .f32 :=
  fun y => T (fun a => match a with | 0 => rowAt (I (nth (y 0))) | 1 => y 1)

/-- The list a tile fetches. -/
def lst (I : S819200.Idx → Elt F .i32) (c : Fin 2) (i : Fin 16) : S25600.Idx → Elt F .i32 := (idxW c i).view.read (Elt F) I

/-- What belongs in a chunk of the result. -/
def val (I : S819200.Idx → Elt F .i32) (T : S100000x128.Idx → Elt F .f32) (c : Fin 2) (i : Fin 16) (g : Fin 50) (b : Fin 2) :
    S256x128.Idx → Elt F .f32 := (outW c i g b).view.read (Elt F) (gath I T)

/-- Every index names a row of the table. -/
def InRows (I : S819200.Idx → Elt F .i32) : Prop := ∀ y, (I y : BitVec 32).toNat < 100000

variable {I : S819200.Idx → Elt F .i32} {T : S100000x128.Idx → Elt F .f32}

/-- A chunk's indices, as the gather reads them from the tile's list, all name rows. -/
theorem lst_inRows (hI : InRows (F := F) I) (c : Fin 2) (i : Fin 16) (g : Fin 50) (b : Fin 2) :
    ∀ x, ((lstW g b).view.read (Elt F) (lst (F := F) I c i) x : BitVec 32).toNat < S100000x128.size gathers_S100000x128_S256x128.axis := by
  intro x
  exact hI _

/-- The rows that the gather of a chunk fetches are the chunk's values. -/
theorem gather_val (hI : InRows (F := F) I) (c : Fin 2) (i : Fin 16) (g : Fin 50) (b : Fin 2)
    (hn : S256.numel = S256x128.size gathers_S100000x128_S256x128.axis')
    (hin : ∀ x, ((lstW g b).view.read (Elt F) (lst (F := F) I c i) x : BitVec 32).toNat < S100000x128.size gathers_S100000x128_S256x128.axis) :
    SparseCore.gatherPayload gathers_S100000x128_S256x128 (xAll.view.read (Elt F) T)
        (SparseCore.rows ((lstW g b).view.read (Elt F) (lst (F := F) I c i)) hn hin)
      = val I T c i g b := by
  funext x
  show T _ = T _
  congr 1
  funext a
  match a with
  | 0 =>
    apply Fin.ext
    show 0 + 1 * (gathers_S100000x128_S256x128.idx (SparseCore.rows ((lstW g b).view.read (Elt F) (lst (F := F) I c i)) hn hin) x
      gathers_S100000x128_S256x128.axis).val = (I (nth ((outW c i g b).view.emb x 0)) : BitVec 32).toNat % 100000
    rw [Shape.Gathers.idx_axis, Nat.mod_eq_of_lt (hI _), Nat.zero_add, Nat.one_mul]
    show (I _ : BitVec 32).toNat = _
    congr 2
    funext a
    match a with
    | 0 =>
      apply Fin.ext
      have hz := Shape.rowMajor_val_one (d := ![256]) (S256.rowMajor.symm ((x gathers_S100000x128_S256x128.axis').cast hn.symm))
      rw [Equiv.apply_symm_apply] at hz
      show base c i + 1 * (skip g b + 1 * (S256.rowMajor.symm _ 0).val) = base c i + skip g b + 1 * (x 0).val
      rw [← hz]
      show base c i + 1 * (skip g b + 1 * (x 0).val) = _
      omega
  | 1 =>
    apply Fin.ext
    show 0 + 1 * (x 1).val = 0 + 1 * (x 1).val
    rfl

end Cert.Proof.KernelIdeal

end
-- ==== Proof.KernelIdealTile.lean ====
/-
  One tile's task: the fetch of its list of indices, then fifty rounds of two chunks, each chunk an indirect gather into one of the
  tile's two row buffers and a copy of the buffer out to the chunk's place in the result. Each buffer's gather for the next round is
  started as soon as its copy out is done, so two gathers are under way at once: each holds its own half of the tile's share of the
  table and its own half of the tile's list.

  The steps are stated once for either buffer and for any chunk; what a buffer holds is stated as what its memref reads.
-/
module

public import proofs.«01_k».proof.Proof.KernelIdealChunks

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch and its ghost state -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-- The flattened indices, the table and the result's rows on device `d`. -/
abbrev vLoc (d : Dev nD) : Loc nD τ sig := (SparseCore.T d).loc main_v0
abbrev xLoc (d : Dev nD) : Loc nD τ sig := (SparseCore.T d).loc main_arg1
abbrev oLoc (d : Dev nD) : Loc nD τ sig := (SparseCore.T d).loc main_v1

/-! ## A tile, its coordinates and what it holds -/

abbrev cV (L : grid0.Coords) : Fin τ.nSC := (L 0).castLE hcore0
abbrev jV (L : grid0.Coords) : Fin τ.nSub := (L 1).castLE hsub0
/-- The SparseCore and the subcore as numbers. -/
abbrev cL (L : grid0.Coords) : Fin 2 := Fin.cast rfl (L 0)
abbrev iL (L : grid0.Coords) : Fin 16 := Fin.cast rfl (L 1)
/-- The tile's thread. -/
abbrev thr (d : Dev nD) (L : grid0.Coords) : Thread nD τ := V d (cV L) (jV L)

variable [FloatOps F]

section Tile

variable (d : Dev nD) (L : grid0.Coords)
variable (I : S819200.Idx → Elt F .i32) (T : S100000x128.Idx → Elt F .f32)

/-- The buffer `r` in the tile's memory reads `v`. -/
def Holds (r : Memref sig .scVector .vmem S256x128 .f32) (v : S256x128.Idx → Elt F .f32) : sProp 𝕄 :=
  iprop(∃ f : Buf (Elt F) (r.view.loc (thr d L)), ⌜r.view.read (Elt F) f = v⌝ ∗ (r.view.loc (thr d L) ↦[r.view.set]{fullShare} f))
/-- The buffer `r` is the tile's, whatever it reads. -/
def Free (r : Memref sig .scVector .vmem S256x128 .f32) : sProp 𝕄 :=
  iprop(∃ f : Buf (Elt F) (r.view.loc (thr d L)), r.view.loc (thr d L) ↦[r.view.set]{fullShare} f)
/-- A share of the table. -/
abbrev TabAt (q : PosShare TreeShare) : sProp 𝕄 := xLoc d ↦{q} T
/-- A share of the tile's fetched list. -/
abbrev LstAt (ql : PosShare TreeShare) : sProp 𝕄 := (thr d L).loc cc0_scratch0 ↦{ql} lst (F := F) I (cL L) (iL L)
/-- A chunk of the result, at contents `f`. -/
abbrev OutAt (g : Fin 50) (b : Fin 2) (f : Buf (Elt F) (oLoc d)) : sProp 𝕄 := oLoc d ↦[outSet (cL L) (iL L) g b]{fullShare} f
/-- The semaphore `sem` of the tile is at zero. -/
abbrev Idle (sem : DmaSem sig) : sProp 𝕄 := semVal (thr d L, SemLoc.dma sem) 0
/-- What the tile owes, its waits so far among `W` or its own. -/
def Owing (O : CellTallies nD τ sig (HIx 1)) (W : Waits sig (HIx 1)) : sProp 𝕄 :=
  iprop(∃ W', ⌜∀ p ∈ W', p ∈ W ∨ p.2 = none⌝ ∗ owes (thr d L) O W')

/-- The gather of chunk `(g, b)` into `r` is under way, with the shares it reads. -/
def Gathering (r : Memref sig .scVector .vmem S256x128 .f32) (sem : DmaSem sig) (q ql : PosShare TreeShare) (g : Fin 50) (b : Fin 2) : sProp 𝕄 :=
  Transfers.Flight countersEmb (thr d L) (.dma sem) (default : HIx 1) r.view.dmaCredit
    iprop(Holds d L r (val I T (cL L) (iL L) g b) ∗ TabAt d T q ∗ LstAt d L I ql)
/-- The copy of `r` out to chunk `(g, b)` is under way. -/
def Copying (r : Memref sig .scVector .vmem S256x128 .f32) (sem : DmaSem sig) (g : Fin 50) (b : Fin 2) : sProp 𝕄 :=
  Transfers.Flight countersEmb (thr d L) (.dma sem) (default : HIx 1) (outW (cL L) (iL L) g b).view.dmaCredit
    iprop(Free d L r ∗ OutAt d L g b (gath I T))

variable {d L I T}
variable {r : Memref sig .scVector .vmem S256x128 .f32} {sem : DmaSem sig} {q ql : PosShare TreeShare} {g : Fin 50} {b : Fin 2}
variable {α : Type} {k : PUnit.{1} → Prog (TpuEff nD τ sig (Elt F) Λ₀ (thr d L).2) α}
variable {Q : α → sProp (MT nD τ sig (HIx 1) (Elt F) ℕ UU ℕ)}
variable {O : CellTallies nD τ sig (HIx 1)} {W : Waits sig (HIx 1)}

/-- The credit of a gather's rows is that of its whole destination. -/
theorem rows_credit (h : S100000x128.Gathers 0 S256x128) :
    ∑ j, (r.slice (S256x128.rowRect h.axis' j) (S256x128.stride_rowRect h.axis' j)).view.dmaCredit = r.view.dmaCredit :=
  SparseCore.sum_rowCredit_eq_dmaCredit r h.axis' fun _ => rfl

/-- A chunk is not empty. -/
theorem rows_pos : 0 < S256x128.numel := by decide

/-- What a finished gather of chunk `(g, b)` hands back, with the parts of the table and the list it did not take. -/
theorem gather_done (hI : InRows (F := F) I) {hn : S256.numel = S256x128.size gathers_S100000x128_S256x128.axis'}
    {hin : ∀ i, ((lstW g b).view.read (Elt F) (lst (F := F) I (cL L) (iL L)) i).toNat < S100000x128.size gathers_S100000x128_S256x128.axis}
    {f : Buf (Elt F) (r.view.loc (thr d L))} :
    (iprop(((r.view.loc (thr d L) ↦[r.view.set]{fullShare} r.view.write (Elt F) f
          (SparseCore.gatherPayload gathers_S100000x128_S256x128 (xAll.view.read (Elt F) T)
            (SparseCore.rows ((lstW g b).view.read (Elt F) (lst (F := F) I (cL L) (iL L))) hn hin)) Finset.univ)
        ∗ (xLoc d ↦[xAll.view.set]{q} T)
        ∗ ((thr d L).loc cc0_scratch0 ↦[(lstW g b).view.set]{ql} lst (F := F) I (cL L) (iL L)))
      ∗ ((xLoc d ↦[Finset.univ \ xAll.view.set]{q} T)
        ∗ ((thr d L).loc cc0_scratch0 ↦[Finset.univ \ (lstW g b).view.set]{ql} lst (F := F) I (cL L) (iL L)))) : sProp 𝕄)
      ⊢ iprop(Holds d L r (val I T (cL L) (iL L) g b) ∗ TabAt d T q ∗ LstAt d L I ql) := by
  unfold Holds
  iintro ⟨⟨Hr, Hx, Hl⟩, Hx', Hl'⟩
  isplitl [Hr]
  · iexists _; isplitr
    swap; · iexact Hr
    ipureintro
    rw [View.read_write_univ]
    exact gather_val hI (cL L) (iL L) g b _ _
  isplitl [Hx Hx']
  · iapply (pointsTo_split_subset (Finset.subset_univ (xAll).view.set)).2
    isplitl [Hx]; · iexact Hx
    iexact Hx'
  · iapply (pointsTo_split_subset (Finset.subset_univ (lstW g b).view.set)).2
    isplitl [Hl]; · iexact Hl
    iexact Hl'

/-- Starting the gather of chunk `(g, b)`: the list's window may be named by any offset that is the chunk's. -/
theorem start_gather (hI : InRows (F := F) I) {off : Fin 1 → ℕ} (ho : off = ![skip g b])
    {inb : ∀ a, off a + S256.size a ≤ S25600.size a} {hp : (thr d L).2.kind = .scVector} {hn : S256.numel = S256x128.size gathers_S100000x128_S256x128.axis'}
    {hsrc : xAll.view.WordExact} {he : EltTy.f32.bits = 32} {hsp : Space.hbm = .hbm ∨ Space.hbm = .shared} {hr : S100000x128.StreamRows 0} :
    iprop(Free d L r ∗ TabAt d T q ∗ LstAt d L I ql ∗ Idle d L sem)
      ⊢ iprop((Gathering d L I T r sem q ql g b -∗ wp frame (wpE (defs₀ (F := F)) 𝒱₀ (thr d L) none) Set.univ (k ⟨⟩) Q)
          -∗ wp frame (wpE (defs₀ (F := F)) 𝒱₀ (thr d L) none) Set.univ
            (SparseCore.enqueueIndirectGather hp xAll r gathers_S100000x128_S256x128
              (sM.slice (Rect.unit (s := S25600) off S256.size inb) (fun _ => rfl)) hn sem hsrc he hsp hr >>= k) Q) := by
  subst ho
  unfold Free
  iintro ⟨⟨%f, Hr⟩, Hx, Hl, Hs⟩ Hk
  ihave Hx := (pointsTo_split_subset (Finset.subset_univ (xAll).view.set)).1 $$ Hx
  icases Hx with ⟨Hx, Hx'⟩
  ihave Hl := (pointsTo_split_subset (Finset.subset_univ (lstW g b).view.set)).1 $$ Hl
  icases Hl with ⟨Hl, Hl'⟩
  iapply (SparseCore.wp_indirectGatherLocal countersEmb 𝒱₀ (thr d L) none (hg := gathers_S100000x128_S256x128) (default : HIx 1)
      r.view.dmaCredit (rows_credit _) rows_pos (lst_inRows hI (cL L) (iL L) g b)) $$ [Hr Hx Hl Hs]
  · isplitl [Hx]; · iexact Hx
    isplitl [Hr]; · iexact Hr
    isplitl [Hl]; · iexact Hl
    iexact Hs
  iintro Hfl
  iapply Hk
  ihave Hfl := (Carry.flight_with countersEmb (thr d L) (X := iprop((xLoc d ↦[Finset.univ \ xAll.view.set]{q} T)
      ∗ (thr d L).loc cc0_scratch0 ↦[Finset.univ \ (lstW g b).view.set]{ql} lst (F := F) I (cL L) (iL L)))) $$ [Hfl Hx' Hl']
  · isplitl [Hfl]; · iexact Hfl
    isplitl [Hx']; · iexact Hx'
    iexact Hl'
  unfold Gathering
  iapply (Transfers.Flight_mono countersEmb (thr d L) (gather_done hI)) $$ Hfl

/-- One more wait of the tile's own. -/
theorem Owing.more {W' : Waits sig (HIx 1)} {sm : SemLoc sig} (h : ∀ p ∈ W', p ∈ W ∨ p.2 = none) :
    (owes (thr d L) O (insert (sm, (default : HIx 1)) W') : sProp 𝕄) ⊢ Owing (F := F) d L O W := by
  unfold Owing
  iintro HO
  iexists _; isplitr
  swap; · iexact HO
  ipureintro; intro p hp
  rcases Finset.mem_insert.mp hp with hp | hp
  · exact .inr (hp ▸ rfl)
  · exact h p hp

/-- A wait for a copy or a gather that this tile started: it gives what the transfer delivers, and the semaphore at zero. -/
theorem await {s' s : Shape} {e' e : EltTy} {sp' sp : Space} {srcw : Memref sig (thr d L).2.kind sp' s' e'} {dstw : Memref sig (thr d L).2.kind sp s e}
    {hsrc : srcw.view.WordExact} {hdst : dstw.view.WordExact} {N : ℕ} (hN : dstw.view.dmaCredit = N) {X : sProp (MT nD τ sig (HIx 1) (Elt F) ℕ UU ℕ)} :
    iprop(Transfers.Flight countersEmb (thr d L) (.dma sem) (default : HIx 1) N X ∗ Owing d L O W
        ∗ Transfers.MayWaits (thr d L) (default : HIx 1) O)
      ⊢ iprop((iprop(X ∗ Idle d L sem ∗ Owing d L O W) -∗ wp frame (wpE (defs₀ (F := F)) 𝒱₀ (thr d L) none) Set.univ (k ⟨⟩) Q)
          -∗ wp frame (wpE (defs₀ (F := F)) 𝒱₀ (thr d L) none) Set.univ (Prog.lift (.waitDma2 sem srcw dstw hsrc hdst) >>= k) Q) := by
  show _ ⊢ iprop(_ -∗ wp frame (wpE (defs₀ (F := F)) 𝒱₀ (thr d L) none) Set.univ (.op (.waitDma2 sem srcw dstw hsrc hdst) k) Q)
  unfold Owing
  iintro ⟨Hf, ⟨%W', %hW', HO⟩, Hmw⟩ Hk
  iapply (Transfers.wp_waitLocalO countersEmb 𝒱₀ (thr d L) none (default : HIx 1) hN) $$ [Hf HO Hmw]
  · isplitl [Hf]; · iexact Hf
    isplitl [HO]; · iexact HO
    iapply (Transfers.MayWaits.elim (SemLoc.dma sem)) $$ Hmw
  iintro ⟨HX, Hs, HO⟩
  iapply Hk
  isplitl [HX]; · iexact HX
  isplitl [Hs]; · iexact Hs
  have h := Owing.more (F := F) (d := d) (L := L) (O := O) (sm := SemLoc.dma sem) hW'
  unfold Owing at h
  iapply h $$ HO

/-- What a finished copy of a buffer that reads a chunk's values leaves: the chunk at those values. -/
theorem copied {f : Buf (Elt F) (r.view.loc (thr d L))} (hf : r.view.read (Elt F) f = val I T (cL L) (iL L) g b) {fo : Buf (Elt F) (oLoc d)} :
    (iprop((oLoc d ↦[outSet (cL L) (iL L) g b]{fullShare} (outW (cL L) (iL L) g b).view.write (Elt F) fo
          ((ReadAs.same : ReadAs (Elt F) S256x128 .f32 S256x128 .f32).apply (r.view.read (Elt F) f)) Finset.univ)
        ∗ (r.view.loc (thr d L) ↦[r.view.set]{fullShare} f)) : sProp 𝕄)
      ⊢ iprop(Free d L r ∗ OutAt d L g b (gath I T)) := by
  iintro ⟨Ho, Hr⟩
  isplitl [Hr]; · unfold Free; iexists f; iexact Hr
  have e : (oLoc d ↦[outSet (cL L) (iL L) g b]{fullShare} (outW (cL L) (iL L) g b).view.write (Elt F) fo
        ((ReadAs.same : ReadAs (Elt F) S256x128 .f32 S256x128 .f32).apply (r.view.read (Elt F) f)) Finset.univ : sProp 𝕄)
      = OutAt d L g b (gath I T) := by
    refine pointsTo_congr fun y hy => ?_
    rw [ReadAs.apply_same, hf]
    unfold val
    rw [View.write_read_eq_piecewise, View.setOn_univ]
    exact Finset.piecewise_eq_of_mem _ _ _ hy
  iapply (Entails.of_eq e) $$ Ho

/-- Starting the copy of `r` out to chunk `(g, b)`. -/
theorem start_copy {off : Fin 2 → ℕ} (ho : off = ![base (cL L) (iL L) + skip g b, 0]) {fo : Buf (Elt F) (oLoc d)}
    {inb : ∀ a, off a + S256x128.size a ≤ S819200x128.size a} {hsrc : r.view.WordExact}
    {hdst : (oM.slice (Rect.unit (s := S819200x128) off S256x128.size inb) (fun _ => rfl)).view.WordExact}
    {hsem : DmaTarget.Typed (nD := nD) (p := (thr d L).2) .vmem (SemLoc.dma sem)
      (.here (oM.slice (Rect.unit (s := S819200x128) off S256x128.size inb) (fun _ => rfl)))} :
    iprop(Holds d L r (val I T (cL L) (iL L) g b) ∗ OutAt d L g b fo ∗ Idle d L sem)
      ⊢ iprop((Copying d L I T r sem g b -∗ wp frame (wpE (defs₀ (F := F)) 𝒱₀ (thr d L) none) Set.univ (k ⟨⟩) Q)
          -∗ wp frame (wpE (defs₀ (F := F)) 𝒱₀ (thr d L) none) Set.univ
            (Prog.lift (.enqueueDma r (.here (oM.slice (Rect.unit (s := S819200x128) off S256x128.size inb) (fun _ => rfl)))
              (.dma sem) hsrc hdst hsem) >>= k) Q) := by
  subst ho
  show _ ⊢ iprop(_ -∗ wp frame (wpE (defs₀ (F := F)) 𝒱₀ (thr d L) none) Set.univ
    (.op (.enqueueDmaAs r (.here (outW (cL L) (iL L) g b)) .same (.dma sem) hsrc hdst hsem) k) Q)
  unfold Holds
  iintro ⟨⟨%f, %hf, Hr⟩, Ho, Hs⟩ Hk
  iapply (Transfers.wp_dmaLocal countersEmb 𝒱₀ (thr d L) none (default : HIx 1) (outW (cL L) (iL L) g b).view.dmaCredit
      (View.amount_dma _ _) (View.dmaCredit_pos _ rows_pos) (subset_refl _)) $$ [Hr Ho Hs]
  · isplitl [Hr]; · iexact Hr
    isplitl [Ho]; · iexact Ho
    iexact Hs
  iintro Hf
  iapply Hk
  unfold Copying
  iapply (Transfers.Flight_mono countersEmb (thr d L) (copied hf)) $$ Hf

/-- The wait for chunk `(g, b)`'s gather: the buffer reads the chunk's values and the shares are back. -/
theorem wait_gather {hsrc : xAll.view.WordExact} {hdst : r.view.WordExact} :
    iprop(Gathering d L I T r sem q ql g b ∗ Owing d L O W ∗ Transfers.MayWaits (thr d L) (default : HIx 1) O)
      ⊢ iprop((iprop((Holds d L r (val I T (cL L) (iL L) g b) ∗ TabAt d T q ∗ LstAt d L I ql) ∗ Idle d L sem ∗ Owing d L O W)
            -∗ wp frame (wpE (defs₀ (F := F)) 𝒱₀ (thr d L) none) Set.univ (k ⟨⟩) Q)
          -∗ wp frame (wpE (defs₀ (F := F)) 𝒱₀ (thr d L) none) Set.univ
            (SparseCore.waitIndirectGather (p := (thr d L).2) sem xAll r hsrc hdst >>= k) Q) := by
  unfold Gathering
  exact await (srcw := xAll) (dstw := r) (hsrc := hsrc) (hdst := hdst) rfl

/-- The wait for the copy out to chunk `(g, b)`: the buffer is free and the chunk is at its values. The wait may name any chunk of the
    result, for only its size counts. -/
theorem wait_copy {off : Fin 2 → ℕ} {inb : ∀ a, off a + S256x128.size a ≤ S819200x128.size a} {hsrc : r.view.WordExact}
    {hdst : (oM.slice (Rect.unit (s := S819200x128) off S256x128.size inb) (fun _ => rfl)).view.WordExact} :
    iprop(Copying d L I T r sem g b ∗ Owing d L O W ∗ Transfers.MayWaits (thr d L) (default : HIx 1) O)
      ⊢ iprop((iprop((Free d L r ∗ OutAt d L g b (gath I T)) ∗ Idle d L sem ∗ Owing d L O W)
            -∗ wp frame (wpE (defs₀ (F := F)) 𝒱₀ (thr d L) none) Set.univ (k ⟨⟩) Q)
          -∗ wp frame (wpE (defs₀ (F := F)) 𝒱₀ (thr d L) none) Set.univ
            (Prog.lift (.waitDma2 sem r (oM.slice (Rect.unit (s := S819200x128) off S256x128.size inb) (fun _ => rfl)) hsrc hdst) >>= k) Q) := by
  unfold Copying
  exact await (srcw := r) (dstw := oM.slice (Rect.unit (s := S819200x128) off S256x128.size inb) (fun _ => rfl)) (hsrc := hsrc) (hdst := hdst) rfl

/-- The fetch of the tile's list and its wait: the list's buffer then holds the tile's stretch of the indices. -/
theorem fetch {off off' : Fin 1 → ℕ} (ho : off = ![base (cL L) (iL L)]) (ho' : off' = ![base (cL L) (iL L)])
    {inb : ∀ a, off a + S25600.size a ≤ S819200.size a} {inb' : ∀ a, off' a + S25600.size a ≤ S819200.size a}
    {hsrc : (iM.slice (Rect.unit (s := S819200) off S25600.size inb) (fun _ => rfl)).view.WordExact} {hdst : sM.view.WordExact}
    {hsrc' : (iM.slice (Rect.unit (s := S819200) off' S25600.size inb') (fun _ => rfl)).view.WordExact} {hdst' : sM.view.WordExact}
    {hsem : DmaTarget.Typed (nD := nD) (p := (thr d L).2) .hbm (SemLoc.dma sem) (.here sM)} {qi : PosShare TreeShare}
    {fs : Buf (Elt F) ((thr d L).loc cc0_scratch0)} :
    iprop((vLoc d ↦{qi} I) ∗ ((thr d L).loc cc0_scratch0 ↦{fullShare} fs) ∗ Idle d L sem ∗ Owing d L O W
        ∗ Transfers.MayWaits (thr d L) (default : HIx 1) O)
      ⊢ iprop((iprop((vLoc d ↦{qi} I) ∗ LstAt d L I fullShare ∗ Idle d L sem ∗ Owing d L O W)
            -∗ wp frame (wpE (defs₀ (F := F)) 𝒱₀ (thr d L) none) Set.univ (k ⟨⟩) Q)
          -∗ wp frame (wpE (defs₀ (F := F)) 𝒱₀ (thr d L) none) Set.univ
            (Prog.lift (.enqueueDma (iM.slice (Rect.unit (s := S819200) off S25600.size inb) (fun _ => rfl)) (.here sM) (.dma sem) hsrc hdst hsem)
              >>= fun _ => Prog.lift (.waitDma2 sem (iM.slice (Rect.unit (s := S819200) off' S25600.size inb') (fun _ => rfl)) sM hsrc' hdst') >>= k) Q) := by
  subst ho; subst ho'
  show _ ⊢ iprop(_ -∗ wp frame (wpE (defs₀ (F := F)) 𝒱₀ (thr d L) none) Set.univ
    (.op (.enqueueDmaAs (idxW (cL L) (iL L)) (.here sM) .same (.dma sem) hsrc hdst hsem)
      fun _ => Prog.lift (.waitDma2 sem (idxW (cL L) (iL L)) sM hsrc' hdst') >>= k) Q)
  iintro ⟨Hi, Hl, Hs, HO, Hmw⟩ Hk
  ihave Hi := (pointsTo_split_subset (Finset.subset_univ (idxW (cL L) (iL L)).view.set)).1 $$ Hi
  icases Hi with ⟨Hi, Hi'⟩
  iapply (Transfers.wp_dmaLocal countersEmb 𝒱₀ (thr d L) none (default : HIx 1) sM.view.dmaCredit
      (View.amount_dma _ _) (View.dmaCredit_pos _ (by decide : 0 < S25600.numel)) (Finset.subset_univ _)) $$ [Hi Hl Hs]
  · isplitl [Hi]; · iexact Hi
    isplitl [Hl]; · iexact Hl
    iexact Hs
  iintro Hf
  iapply (await (srcw := idxW (cL L) (iL L)) (dstw := sM) (hsrc := hsrc') (hdst := hdst') rfl) $$ [Hf HO Hmw]
  · isplitl [Hf]; · iexact Hf
    isplitl [HO]; · iexact HO
    iexact Hmw
  iintro ⟨⟨Hl, Hi⟩, Hs, HO⟩
  iapply Hk
  isplitl [Hi Hi']
  · iapply (pointsTo_split_subset (Finset.subset_univ (idxW (cL L) (iL L)).view.set)).2
    isplitl [Hi]; · iexact Hi
    iexact Hi'
  isplitl [Hl]
  · have e : sM.view.write (Elt F) fs ((ReadAs.same : ReadAs (Elt F) S25600 .i32 S25600 .i32).apply
        ((idxW (cL L) (iL L)).view.read (Elt F) I)) Finset.univ = lst (F := F) I (cL L) (iL L) := by
      rw [ReadAs.apply_same]
      exact View.write_whole_univ _ _ _
    iapply (Entails.of_eq (congrArg (fun h => ((thr d L).loc cc0_scratch0 ↦{fullShare} h : sProp 𝕄)) e)) $$ Hl
  isplitl [Hs]; · iexact Hs
  iexact HO

end Tile

end Cert.Proof.KernelIdeal

end
-- ==== Proof.KernelIdealBody.lean ====
/-
  A tile's whole task, from the steps of `KernelTile`: the loop's invariant, one trip, and the task from what the tile is handed to what it
  hands back — its chunks of the result at their gathered rows.
-/
module

public import proofs.«01_k».proof.Proof.KernelIdealTile

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Body

variable (d : Dev nD) (L : grid0.Coords)
variable (I : S819200.Idx → Elt F .i32) (T : S100000x128.Idx → Elt F .f32) (old : Buf (Elt F) (oLoc d))
variable (q : PosShare TreeShare) (O : CellTallies nD τ sig (HIx 1)) (W : Waits sig (HIx 1))

/-- A round's two chunks at contents `f`. -/
abbrev PairAt (g : Fin 50) (f : Buf (Elt F) (oLoc d)) : sProp 𝕄 := iprop(OutAt d L g 0 f ∗ OutAt d L g 1 f)
/-- The tile's chunks when `n` rounds are done: those rounds' at their gathered rows, the others as they were. -/
def Chunks (n : ℕ) : sProp 𝕄 := bigSep Finset.univ fun g : Fin 50 => PairAt d L g (if g.val < n then gath I T else old)
/-- The loop's invariant at round `g`: both buffers' gathers under way for it, no copy under way, the earlier rounds' chunks done. -/
def Live (g : Fin 50) : sProp 𝕄 :=
  iprop(Gathering d L I T rA cc0_scratch3.sem q.left fullShare.left g 0 ∗ Gathering d L I T rB cc0_scratch4.sem q.right fullShare.right g 1
    ∗ Idle d L cc0_scratch5.sem ∗ Idle d L cc0_scratch6.sem ∗ Owing d L O W ∗ Chunks d L I T old g.val)

/-- The chunks of round `g`, out of the tile's at that round; put back done they make the tile's at the next. -/
theorem chunks_step (g : Fin 50) :
    Chunks d L I T old g.val ⊢ iprop(PairAt d L g old ∗ (PairAt d L g (gath I T) -∗ Chunks d L I T old (g.val + 1))) := by
  unfold Chunks
  rw [SparseCore.bigSep_erase' (Finset.mem_univ g), SparseCore.bigSep_erase' (Finset.mem_univ g), if_neg (Nat.lt_irrefl _), if_pos (Nat.lt_succ_self _)]
  have e : (bigSep (Finset.univ.erase g) fun x : Fin 50 => (PairAt d L x (if x.val < g.val then gath I T else old) : sProp 𝕄))
      = bigSep (Finset.univ.erase g) fun x : Fin 50 => PairAt d L x (if x.val < g.val + 1 then gath I T else old) := by
    refine BI.bigSep_congr fun x hx => ?_
    have hne : x.val ≠ g.val := fun h => (Finset.mem_erase.mp hx).1 (Fin.ext h)
    by_cases h : x.val < g.val
    · rw [if_pos h, if_pos (by omega)]
    · rw [if_neg h, if_neg (by omega)]
  rw [e]
  iintro ⟨Hp, Hr⟩
  isplitl [Hp]; · iexact Hp
  iintro Hp
  isplitl [Hp]; · iexact Hp
  iexact Hr

/-- The rounds before the first, and after the last. -/
theorem chunks_zero : (bigSep Finset.univ fun g : Fin 50 => PairAt d L g old : sProp 𝕄) ⊢ Chunks d L I T old 0 := by
  unfold Chunks
  exact Entails.of_eq (BI.bigSep_congr fun x _ => by rw [if_neg (Nat.not_lt_zero _)])
theorem chunks_all : Chunks d L I T old 50 ⊢ (bigSep Finset.univ fun g : Fin 50 => PairAt d L g (gath I T) : sProp 𝕄) := by
  unfold Chunks
  exact Entails.of_eq (BI.bigSep_congr fun x _ => by rw [if_pos x.isLt])

/-- The loop makes forty-nine trips. -/
theorem trips_eq : k0_t1_loop.trips = 49 := by decide

/-- A trip's offsets are the chunks' own. -/
theorem off2_at (t : Fin k0_t1_loop.trips) (g : Fin 50) (hg : g.val = t.val) (b : Fin 2) :
    k0_off2 L t (BitVec.ofNat 32 b.val) = ![base (cL L) (iL L) + skip g b, 0] := by
  rw [k0_off2_eq]; unfold base skip; rw [hg]
  show ![51200 * (L 1).val + 25600 * (L 0).val + 512 * t.val + 256 * b.val, 0] = ![51200 * (L 1).val + 25600 * (L 0).val + (512 * t.val + 256 * b.val), 0]
  rw [Nat.add_assoc (51200 * (L 1).val + 25600 * (L 0).val)]
theorem off4_at (t : Fin k0_t1_loop.trips) (g : Fin 50) (hg : g.val = t.val + 1) (b : Fin 2) :
    k0_off4 t (BitVec.ofNat 32 b.val) = ![skip g b] := by
  rw [k0_off4_eq]; unfold skip; rw [hg]
  have e : 512 * t.val + 256 * b.val + 512 = 512 * (t.val + 1) + 256 * b.val := by omega
  rw [e]
theorem off5_at (b : Fin 2) : k0_off5 L (BitVec.ofNat 32 (25088 + 256 * b.val)) = ![base (cL L) (iL L) + skip 49 b, 0] := by
  rw [k0_off5_eq]; unfold base skip
  show ![51200 * (L 1).val + 25600 * (L 0).val + 256 * b.val + 25088, 0] = ![51200 * (L 1).val + 25600 * (L 0).val + (512 * 49 + 256 * b.val), 0]
  have e : 51200 * (L 1).val + 25600 * (L 0).val + 256 * b.val + 25088 = 51200 * (L 1).val + 25600 * (L 0).val + (512 * 49 + 256 * b.val) := by omega
  rw [e]

/-- One trip of the loop takes round `g`'s invariant to the next round's. -/
theorem trip (hI : InRows (F := F) I) (v2 : BitVec 32) (t : Fin k0_t1_loop.trips) (g g' : Fin 50) (hg : g.val = t.val) (hg' : g'.val = t.val + 1) :
    iprop(Transfers.MayWaits (thr d L) (default : HIx 1) O ∗ Live d L I T old q O W g)
      ⊢ wp frame (wpE (defs₀ (F := F)) 𝒱₀ (thr d L) none) Set.univ
          (k0_t1_body L iM (Memref.isWhole_whole _) xM (Memref.isWhole_whole _) oM (Memref.isWhole_whole _) sM (Memref.isWhole_whole _)
            rA (Memref.isWhole_whole _) rB (Memref.isWhole_whole _) cc0_scratch3 cc0_scratch4 cc0_scratch5 cc0_scratch6 cc0_scoped0 v2 t ⟨⟩)
          fun _ => iprop(Transfers.MayWaits (thr d L) (default : HIx 1) O ∗ Live d L I T old q O W g') := by
  unfold k0_t1_body
  rw [k0_part1_eq_skeleton, wp_bind]
  unfold k0_part1_skel
  have hgg : g'.val = g.val + 1 := by omega
  unfold Live
  rw [hgg]
  iintro ⟨#Hmw, HA, HB, Hs5, Hs6, HO, Hc⟩
  ihave Hc := (chunks_step d L I T old g) $$ Hc
  icases Hc with ⟨⟨Ho0, Ho1⟩, Hback⟩
  -- buffer A: its gather is done, its copy out starts
  iapply wait_gather $$ [HA HO]
  · isplitl [HA]; · iexact HA
    isplitl [HO]; · iexact HO
    iexact Hmw
  iintro ⟨⟨HA, HxA, HlA⟩, Hs3, HO⟩
  iapply (start_copy (off2_at L t g hg 0)) $$ [HA Ho0 Hs5]
  · isplitl [HA]; · iexact HA
    isplitl [Ho0]; · iexact Ho0
    iexact Hs5
  iintro HcA
  -- buffer B likewise
  iapply wait_gather $$ [HB HO]
  · isplitl [HB]; · iexact HB
    isplitl [HO]; · iexact HO
    iexact Hmw
  iintro ⟨⟨HB, HxB, HlB⟩, Hs4, HO⟩
  iapply (start_copy (off2_at L t g hg 1)) $$ [HB Ho1 Hs6]
  · isplitl [HB]; · iexact HB
    isplitl [Ho1]; · iexact Ho1
    iexact Hs6
  iintro HcB
  -- A's copy is done, its next gather starts
  iapply wait_copy $$ [HcA HO]
  · isplitl [HcA]; · iexact HcA
    isplitl [HO]; · iexact HO
    iexact Hmw
  iintro ⟨⟨HA, Ho0⟩, Hs5, HO⟩
  iapply (start_gather hI (off4_at t g' hg' 0)) $$ [HA HxA HlA Hs3]
  · isplitl [HA]; · iexact HA
    isplitl [HxA]; · iexact HxA
    isplitl [HlA]; · iexact HlA
    iexact Hs3
  iintro HA
  iapply wait_copy $$ [HcB HO]
  · isplitl [HcB]; · iexact HcB
    isplitl [HO]; · iexact HO
    iexact Hmw
  iintro ⟨⟨HB, Ho1⟩, Hs6, HO⟩
  iapply (le_wp_ret _ _)
  iapply (start_gather hI (off4_at t g' hg' 1)) $$ [HB HxB HlB Hs4]
  · isplitl [HB]; · iexact HB
    isplitl [HxB]; · iexact HxB
    isplitl [HlB]; · iexact HlB
    iexact Hs4
  iintro HB
  sl_step
  isplitr; · iexact Hmw
  isplitl [HA]; · iexact HA
  isplitl [HB]; · iexact HB
  isplitl [Hs5]; · iexact Hs5
  isplitl [Hs6]; · iexact Hs6
  isplitl [HO]; · iexact HO
  iapply Hback
  isplitl [Ho0]; · iexact Ho0
  iexact Ho1

/-- The invariant at trip `n`, the round named by the trip's number. -/
def LiveAt (n : ℕ) : sProp 𝕄 :=
  iprop(∃ g : Fin 50, ⌜g.val = n⌝ ∗ Transfers.MayWaits (thr d L) (default : HIx 1) O ∗ Live d L I T old q O W g)

/-- One trip of the loop takes the invariant at its number to the next number's. -/
theorem trip_any (hI : InRows (F := F) I) (v2 : BitVec 32) (t : Fin k0_t1_loop.trips) :
    LiveAt d L I T old q O W t.val
      ⊢ wp frame (wpE (defs₀ (F := F)) 𝒱₀ (thr d L) none) Set.univ
          (k0_t1_body L iM (Memref.isWhole_whole _) xM (Memref.isWhole_whole _) oM (Memref.isWhole_whole _) sM (Memref.isWhole_whole _)
            rA (Memref.isWhole_whole _) rB (Memref.isWhole_whole _) cc0_scratch3 cc0_scratch4 cc0_scratch5 cc0_scratch6 cc0_scoped0 v2 t ⟨⟩)
          fun _ => LiveAt d L I T old q O W (t.val + 1) := by
  have ht : t.val < 49 := lt_of_lt_of_eq t.isLt trips_eq
  unfold LiveAt
  iintro ⟨%g, %hg, H⟩
  iapply (BIBase.Entails.trans (trip d L I T old q O W hI v2 t g ⟨t.val + 1, by omega⟩ hg rfl) (wp_mono frame _ _ fun _ => by
    iintro H
    iexists ⟨t.val + 1, by omega⟩
    isplitr; · ipureintro; rfl
    iexact H)) $$ H

/-! ## What the tile's memory is made of -/

/-- The tile's five semaphores. -/
def cells : Finset (GSem nD τ sig) :=
  {(thr d L, .dma cc0_scratch3.sem), (thr d L, .dma cc0_scratch4.sem), (thr d L, .dma cc0_scratch5.sem), (thr d L, .dma cc0_scratch6.sem),
    (thr d L, .dma cc0_scoped0.sem)}
/-- The tile's three buffers. -/
def bufs : Finset (DevRef τ sig) :=
  {(thr d L).2.devRef cc0_scratch0, (thr d L).2.devRef cc0_scratch1, (thr d L).2.devRef cc0_scratch2}

omit [FloatOps F] in
/-- The semaphores are the tile's own. -/
theorem cells_sub : cells d L ⊆ ownCells (thr d L) := by
  intro g hg
  unfold cells at hg
  simp only [Finset.mem_insert, Finset.mem_singleton] at hg
  rcases hg with rfl | rfl | rfl | rfl | rfl
  · exact mem_ownCells.mpr ⟨rfl, by show (SemLoc.dma cc0_scratch3.sem : SemLoc sig).isScoped .scVector = true; decide⟩
  · exact mem_ownCells.mpr ⟨rfl, by show (SemLoc.dma cc0_scratch4.sem : SemLoc sig).isScoped .scVector = true; decide⟩
  · exact mem_ownCells.mpr ⟨rfl, by show (SemLoc.dma cc0_scratch5.sem : SemLoc sig).isScoped .scVector = true; decide⟩
  · exact mem_ownCells.mpr ⟨rfl, by show (SemLoc.dma cc0_scratch6.sem : SemLoc sig).isScoped .scVector = true; decide⟩
  · exact mem_ownCells.mpr ⟨rfl, by show (SemLoc.dma cc0_scoped0.sem : SemLoc sig).isScoped .scVector = true; decide⟩
omit [FloatOps F] in
/-- The buffers are the tile's own. -/
theorem bufs_sub : bufs d L ⊆ ownRefs (τ := τ) (thr d L).2 := by
  intro b hb
  unfold bufs at hb
  simp only [Finset.mem_insert, Finset.mem_singleton] at hb
  rcases hb with rfl | rfl | rfl <;> exact SparseCore.Cfg.mem_ownRefs_of_owner rfl

omit [FloatOps F] in
/-- Two different semaphores of the tile are different cells. -/
theorem cell_ne {a b : DmaSem sig} (h : a ≠ b) : ((thr d L, .dma a) : GSem nD τ sig) ≠ (thr d L, .dma b) := fun e => h (by cases e; rfl)
omit [FloatOps F] in
/-- Two different references of the tile are different buffers. -/
theorem buf_ne {a b : Ref sig .scVector} (h : a ≠ b) : (thr d L).2.devRef a ≠ (thr d L).2.devRef b :=
  fun e => h (Proc.devRef_injective _ e)

/-- The tile's semaphores at zero are its five at zero, and the others. -/
theorem sems_eq : (ownSems0 (thr d L) : sProp 𝕄)
    = iprop((Idle d L cc0_scratch3.sem ∗ Idle d L cc0_scratch4.sem ∗ Idle d L cc0_scratch5.sem ∗ Idle d L cc0_scratch6.sem ∗ Idle d L cc0_scoped0.sem)
      ∗ bigSep (ownCells (thr d L) \ cells d L) fun g => semVal g 0) := by
  unfold SparseCore.Cfg.ownSems0
  rw [SparseCore.bigSep_sdiff_split' (cells_sub d L)]
  congr 1
  unfold cells
  rw [SparseCore.bigSep_insert', SparseCore.bigSep_insert', SparseCore.bigSep_insert', SparseCore.bigSep_insert', BI.bigSep_singleton]
  all_goals simp only [Finset.mem_insert, Finset.mem_singleton, not_or]
  · exact cell_ne d L (by decide)
  · exact ⟨cell_ne d L (by decide), cell_ne d L (by decide)⟩
  · exact ⟨cell_ne d L (by decide), cell_ne d L (by decide), cell_ne d L (by decide)⟩
  · exact ⟨cell_ne d L (by decide), cell_ne d L (by decide), cell_ne d L (by decide), cell_ne d L (by decide)⟩

/-- The tile's buffers at some contents are its three at some contents, and the others. -/
theorem bufs_eq : (ownBufs (thr d L) : sProp 𝕄)
    = iprop(((∃ f, (thr d L).loc cc0_scratch0 ↦{fullShare} f) ∗ (∃ f, (thr d L).loc cc0_scratch1 ↦{fullShare} f)
        ∗ ∃ f, (thr d L).loc cc0_scratch2 ↦{fullShare} f)
      ∗ bigSep (ownRefs (τ := τ) (thr d L).2 \ bufs d L) fun b => iprop(∃ f, ((d, b) : Loc nD τ sig) ↦{fullShare} f)) := by
  unfold SparseCore.Cfg.ownBufs
  refine (SparseCore.bigSep_sdiff_split' (bufs_sub d L)).trans ?_
  congr 1
  unfold bufs
  rw [SparseCore.bigSep_insert', SparseCore.bigSep_insert', BI.bigSep_singleton]
  all_goals simp only [Finset.mem_insert, Finset.mem_singleton, not_or]
  · exact buf_ne d L (by decide)
  · exact ⟨buf_ne d L (by decide), buf_ne d L (by decide)⟩

/-- A row buffer held whole is free, and the other way about. -/
theorem free_of {r : Memref sig .scVector .vmem S256x128 .f32} (hr : r.view.set = Finset.univ) :
    (iprop(∃ f, r.view.loc (thr d L) ↦{fullShare} f) : sProp 𝕄) ⊣⊢ Free d L r := by
  unfold Free; rw [hr]

/-! ## The task -/

/-- What the tile is handed: a share of the indices and of the table, and its chunks of the result at contents `f`. -/
def Given (f : Buf (Elt F) (oLoc d)) : sProp 𝕄 :=
  iprop((vLoc d ↦{q} I) ∗ (xLoc d ↦{q} T) ∗ bigSep Finset.univ fun g : Fin 50 => PairAt d L g f)

/-- The first part of the task, from the fetch to the last two copies out: those are under way when it ends, and all else is back. -/
theorem part2 (hI : InRows (F := F) I) :
    iprop(Transfers.MayWaits (thr d L) (default : HIx 1) O ∗ Given d L I T q old
        ∗ (∃ f, (thr d L).loc cc0_scratch0 ↦{fullShare} f) ∗ Free d L rA ∗ Free d L rB
        ∗ Idle d L cc0_scratch3.sem ∗ Idle d L cc0_scratch4.sem ∗ Idle d L cc0_scratch5.sem ∗ Idle d L cc0_scratch6.sem ∗ Idle d L cc0_scoped0.sem
        ∗ Owing d L O W)
      ⊢ wp frame (wpE (defs₀ (F := F)) 𝒱₀ (thr d L) none) Set.univ
          (k0_part2 L iM (Memref.isWhole_whole _) xM (Memref.isWhole_whole _) oM (Memref.isWhole_whole _) sM (Memref.isWhole_whole _)
            rA (Memref.isWhole_whole _) rB (Memref.isWhole_whole _) cc0_scratch3 cc0_scratch4 cc0_scratch5 cc0_scratch6 cc0_scoped0)
          fun _ => iprop(Transfers.MayWaits (thr d L) (default : HIx 1) O
            ∗ ((vLoc d ↦{q} I) ∗ (xLoc d ↦{q} T) ∗ LstAt d L I fullShare)
            ∗ Copying d L I T rA cc0_scratch5.sem 49 0 ∗ Copying d L I T rB cc0_scratch6.sem 49 1
            ∗ Idle d L cc0_scratch3.sem ∗ Idle d L cc0_scratch4.sem ∗ Idle d L cc0_scoped0.sem ∗ Owing d L O W
            ∗ (PairAt d L 49 (gath I T) -∗ bigSep Finset.univ fun g : Fin 50 => PairAt d L g (gath I T))) := by
  rw [k0_part2_eq_skeleton]
  unfold k0_part2_skel Given
  iintro ⟨#Hmw, ⟨Hi, Hx, Ho⟩, ⟨%fs, Hl⟩, HA, HB, Hs3, Hs4, Hs5, Hs6, Hs0, HO⟩
  ihave Hc := (chunks_zero d L I T old) $$ Ho
  ihave Hx := (pointsTo_share (PosShare.mem_left_op_right q)).1 $$ Hx
  icases Hx with ⟨HxA, HxB⟩
  iapply (fetch (k0_off1_eq L) (k0_off1_eq L)) $$ [Hi Hl Hs0 HO]
  · isplitl [Hi]; · iexact Hi
    isplitl [Hl]; · iexact Hl
    isplitl [Hs0]; · iexact Hs0
    isplitl [HO]; · iexact HO
    iexact Hmw
  iintro ⟨Hi, Hl, Hs0, HO⟩
  ihave Hl := (pointsTo_share (PosShare.mem_left_op_right fullShare)).1 $$ Hl
  icases Hl with ⟨HlA, HlB⟩
  iapply (start_gather (g := 0) (b := 0) hI rfl) $$ [HA HxA HlA Hs3]
  · isplitl [HA]; · iexact HA
    isplitl [HxA]; · iexact HxA
    isplitl [HlA]; · iexact HlA
    iexact Hs3
  iintro HA
  iapply (start_gather (g := 0) (b := 1) hI rfl) $$ [HB HxB HlB Hs4]
  · isplitl [HB]; · iexact HB
    isplitl [HxB]; · iexact HxB
    isplitl [HlB]; · iexact HlB
    iexact Hs4
  iintro HB
  -- the loop
  iapply (Scf.wp_for_bind frame (wpE (defs₀ (F := F)) 𝒱₀ (thr d L) none) Set.univ _ _ _ k0_t1_ok ⟨⟩ _
    (fun n _ => LiveAt d L I T old q O W n) ?hbody) $$ [HA HB Hs5 Hs6 HO Hc]
  case hbody =>
    intro t acc
    exact trip_any d L I T old q O W hI _ t
  · unfold LiveAt Live
    iexists 0
    isplitr; · ipureintro; rfl
    isplitr; · iexact Hmw
    isplitl [HA]; · iexact HA
    isplitl [HB]; · iexact HB
    isplitl [Hs5]; · iexact Hs5
    isplitl [Hs6]; · iexact Hs6
    isplitl [HO]; · iexact HO
    iexact Hc
  unfold LiveAt
  iintro %acc ⟨%g, %hg, -, HL⟩
  have hg : g = 49 := Fin.ext (hg.trans trips_eq)
  subst hg
  unfold Live
  icases HL with ⟨HA, HB, Hs5, Hs6, HO, Hc⟩
  ihave Hc := (chunks_step d L I T old 49) $$ Hc
  icases Hc with ⟨⟨Ho0, Ho1⟩, Hback⟩
  iapply wait_gather $$ [HA HO]
  · isplitl [HA]; · iexact HA
    isplitl [HO]; · iexact HO
    iexact Hmw
  iintro ⟨⟨HA, HxA, HlA⟩, Hs3, HO⟩
  iapply (start_copy (off5_at L 0)) $$ [HA Ho0 Hs5]
  · isplitl [HA]; · iexact HA
    isplitl [Ho0]; · iexact Ho0
    iexact Hs5
  iintro HcA
  iapply wait_gather $$ [HB HO]
  · isplitl [HB]; · iexact HB
    isplitl [HO]; · iexact HO
    iexact Hmw
  iintro ⟨⟨HB, HxB, HlB⟩, Hs4, HO⟩
  iapply (start_copy (off5_at L 1)) $$ [HB Ho1 Hs6]
  · isplitl [HB]; · iexact HB
    isplitl [Ho1]; · iexact Ho1
    iexact Hs6
  iintro HcB
  sl_step
  isplitr; · iexact Hmw
  isplitl [Hi HxA HxB HlA HlB]
  · isplitl [Hi]; · iexact Hi
    isplitl [HxA HxB]
    · iapply (pointsTo_share (PosShare.mem_left_op_right q)).2
      isplitl [HxA]; · iexact HxA
      iexact HxB
    · iapply (pointsTo_share (PosShare.mem_left_op_right fullShare)).2
      isplitl [HlA]; · iexact HlA
      iexact HlB
  isplitl [HcA]; · iexact HcA
  isplitl [HcB]; · iexact HcB
  isplitl [Hs3]; · iexact Hs3
  isplitl [Hs4]; · iexact Hs4
  isplitl [Hs0]; · iexact Hs0
  isplitl [HO]; · iexact HO
  iintro Hp
  iapply (chunks_all d L I T old)
  iapply Hback $$ Hp

/-- THE TASK: from the shares and chunks a tile is handed, with its own memory, to the same with its chunks at their gathered rows. -/
theorem task (hF : (K (F := F)).Facts) (hI : InRows (F := F) I) (hO : ∀ g, O g none = 0) :
    iprop(levAts (K (F := F)).L (K (F := F)).lev ∗ emp ∗ Given d L I T q old
        ∗ scopedBufs (thr d L) ∗ scopedSems0 (thr d L) ∗ owes (thr d L) O W)
      ⊢ wp frame (wpE (defs₀ (F := F)) 𝒱₀ (thr d L) none) Set.univ
          (cc0_grab L iM (Memref.isWhole_whole _) xM (Memref.isWhole_whole _) oM (Memref.isWhole_whole _) sM (Memref.isWhole_whole _)
            rA (Memref.isWhole_whole _) rB (Memref.isWhole_whole _) cc0_scratch3 cc0_scratch4 cc0_scratch5 cc0_scratch6 cc0_scoped0)
          fun _ => iprop(Given d L I T q (gath I T) ∗ scopedBufs (thr d L) ∗ scopedSems0 (thr d L) ∗ Owing d L O W) := by
  rw [cc0_grab_eq_skeleton, (K (F := F)).scopedBufs_V hF d (cV L) (jV L), SparseCore.Cfg.scopedSems0_V (Val := Elt F) d (cV L) (jV L),
    sems_eq, bufs_eq]
  unfold cc0_grab_skel
  rw [wp_bind]
  iintro ⟨#Hlv, -, Hg, ⟨⟨Hl, HA, HB⟩, Hbufs⟩, ⟨⟨Hs3, Hs4, Hs5, Hs6, Hs0⟩, Hsems⟩, HO⟩
  ihave Hmw := (show levAts (K (F := F)).L (K (F := F)).lev ⊢ Transfers.MayWaits (thr d L) (default : HIx 1) O from
    (K (F := F)).mayWaits_none (thr := thr d L) hO) $$ Hlv
  ihave HA := (free_of d L (r := rA) (View.set_whole _)).1 $$ HA
  ihave HB := (free_of d L (r := rB) (View.set_whole _)).1 $$ HB
  iapply (wp_wand frame _ _) $$ [Hg Hl HA HB Hs3 Hs4 Hs5 Hs6 Hs0 HO Hmw]
  · iapply (part2 d L I T old q O W hI)
    isplitl [Hmw]; · iexact Hmw
    isplitl [Hg]; · iexact Hg
    isplitl [Hl]; · iexact Hl
    isplitl [HA]; · iexact HA
    isplitl [HB]; · iexact HB
    isplitl [Hs3]; · iexact Hs3
    isplitl [Hs4]; · iexact Hs4
    isplitl [Hs5]; · iexact Hs5
    isplitl [Hs6]; · iexact Hs6
    isplitl [Hs0]; · iexact Hs0
    unfold Owing
    iexists W
    isplitr; · ipureintro; exact fun p hp => .inl hp
    iexact HO
  iintro %x ⟨#Hmw, ⟨Hi, Hx, Hl⟩, HcA, HcB, Hs3, Hs4, Hs0, HO, Hback⟩
  iapply wait_copy $$ [HcA HO]
  · isplitl [HcA]; · iexact HcA
    isplitl [HO]; · iexact HO
    iexact Hmw
  iintro ⟨⟨HA, Ho0⟩, Hs5, HO⟩
  iapply wait_copy $$ [HcB HO]
  · isplitl [HcB]; · iexact HcB
    isplitl [HO]; · iexact HO
    iexact Hmw
  iintro ⟨⟨HB, Ho1⟩, Hs6, HO⟩
  sl_step
  ihave HA := (free_of d L (r := rA) (View.set_whole _)).2 $$ HA
  ihave HB := (free_of d L (r := rB) (View.set_whole _)).2 $$ HB
  unfold Given
  isplitl [Hi Hx Hback Ho0 Ho1]
  · isplitl [Hi]; · iexact Hi
    isplitl [Hx]; · iexact Hx
    iapply Hback
    isplitl [Ho0]; · iexact Ho0
    iexact Ho1
  isplitl [Hl HA HB Hbufs]
  · isplitl [Hl HA HB]
    · isplitl [Hl]; · iexists _; iexact Hl
      isplitl [HA]; · iexact HA
      iexact HB
    iexact Hbufs
  isplitl [Hs3 Hs4 Hs5 Hs6 Hs0 Hsems]
  · isplitl [Hs3 Hs4 Hs5 Hs6 Hs0]
    · isplitl [Hs3]; · iexact Hs3
      isplitl [Hs4]; · iexact Hs4
      isplitl [Hs5]; · iexact Hs5
      isplitl [Hs6]; · iexact Hs6
      iexact Hs0
    iexact Hsems
  iexact HO

end Body

end Cert.Proof.KernelIdeal

end
-- ==== Proof.KernelIdealLaunch.lean ====
/-
  The launch: what the TensorCore hands each SparseCore and each SparseCore its tiles, how the whole arrays are cut for that, @main with its
  two reshapes around the call, and the program's run: the result is the gathered rows in the result's shape.
-/
module

public import proofs.«01_k».proof.Proof.KernelIdealBody

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type}

local notation "𝕄" => MT nD τ sig (HIx 1) (Elt F) ℕ UU ℕ

/-- The launch's cells and buffers are as the launch theorem asks. -/
theorem launch_facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable [FloatOps F]
variable (m : (ℓ : Loc nD τ sig) → Buf (Elt F) ℓ) (ρ : Dev nD → PrngReg)

/-! ## The values -/

/-- The flattened indices on device `d`: what the first reshape makes of the kernel's first argument. -/
def flat (d : Dev nD) : S819200.Idx → Elt F .i32 :=
  shapeCast S819200 (m ((SparseCore.T d).loc main_arg0) : S4096x200.Idx → Elt F .i32) shapeCasts_S4096x200_S819200
/-- The table on device `d`. -/
abbrev table (d : Dev nD) : S100000x128.Idx → Elt F .f32 := m (xLoc d)
/-- The rows the SparseCores gather. -/
abbrev rows (d : Dev nD) : S819200x128.Idx → Elt F .f32 := gath (flat m d) (table m d)
/-- The kernel's result: those rows in its shape. -/
def result (d : Dev nD) : S4096x200x128.Idx → Elt F .f32 :=
  shapeCast S4096x200x128 (rows m d) shapeCasts_S819200x128_S4096x200x128

/-- What the proof asks of the launch memory: every index names a row of the table. -/
def PreOK : Prop := ∀ d, InRows (F := F) (flat m d)

/-! ## What the handshakes carry -/

/-- Tile `(c, i)`'s coordinates. -/
def at_ (c : Fin 2) (i : Fin 16) : grid0.Coords :=
  fun | 0 => c | 1 => i | ⟨_ + 2, h⟩ => absurd h (Nat.not_lt.2 (Nat.le_add_left _ _))

/-- Tile `(c, i)`'s share of what all tiles read. -/
def share (c : Fin 2) (i : Fin 16) : PosShare TreeShare := ShareLeaves.leaf 4 (ShareLeaves.leaf 1 fullShare c) i

/-- What tile `(c, i)` is handed, its chunks at contents `f`. -/
abbrev TileGiven (d : Dev nD) (c : Fin 2) (i : Fin 16) (f : Buf (Elt F) (oLoc d)) : sProp 𝕄 :=
  Given d (at_ c i) (flat m d) (table m d) (share c i) f
/-- What SparseCore `c` is handed: its tiles' parts. -/
abbrev CoreGiven (d : Dev nD) (c : Fin 2) (f : Buf (Elt F) (oLoc d)) : sProp 𝕄 :=
  bigSep Finset.univ fun i : Fin 16 => TileGiven m d c i f

instance given_storable (d : Dev nD) (c : Fin 2) (i : Fin 16) (f : Buf (Elt F) (oLoc d)) : BI.Storable (upEmb : UEmb _ 𝕄) (TileGiven m d c i f) := by
  unfold TileGiven Given; infer_instance

/-- The call hands each SparseCore its tiles' parts and each tile its own, and has them back with the chunks gathered. -/
def P : (K (F := F)).Pay (nD := nD) (Val := Elt F) (Name := ℕ) (U := UU) where
  st := fun q d c => match q with | 0 => CoreGiven m d c (m (oLoc d))
  dn := fun q d c => match q with | 0 => CoreGiven m d c (rows m d)
  go := fun q d c i => match q with | 0 => TileGiven m d c i (m (oLoc d))
  td := fun q d c i => match q with | 0 => TileGiven m d c i (rows m d)
  x := fun _ _ => iprop(emp)

instance P_storable : (P (F := F) m).IsStorable where
  st q d c := match q with | 0 => (inferInstance : BI.Storable (upEmb : UEmb _ 𝕄) (CoreGiven m d c (m (oLoc d))))
  dn q d c := match q with | 0 => (inferInstance : BI.Storable (upEmb : UEmb _ 𝕄) (CoreGiven m d c (rows m d)))
  go q d c i := match q with | 0 => given_storable m d c i (m (oLoc d))
  td q d c i := match q with | 0 => given_storable m d c i (rows m d)

/-! ## The tiles' obligation -/

/-- A tile's waits, in the form the obligation names them. -/
theorem owing_obl {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The program dispatched to a tile is the task at the tile's coordinates. -/
theorem task_at (c : Fin τ.nSC) (s : Fin τ.nSub) :
    defs₀ (F := F) (.scVector c s) 0 ()
      = SparseCore.onTile hcore0 hsub0 (fun c s => cc0_grab (at_ c s) iM (Memref.isWhole_whole _) xM (Memref.isWhole_whole _) oM (Memref.isWhole_whole _)
          sM (Memref.isWhole_whole _) rA (Memref.isWhole_whole _) rB (Memref.isWhole_whole _) cc0_scratch3 cc0_scratch4 cc0_scratch5 cc0_scratch6 cc0_scoped0) ⟨⟩ c s := rfl

set_option maxRecDepth 16384 in
theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [task_at]; simp only [SparseCore.onTile, hci, and_self, ↓reduceDIte]
  exact (task d (at_ ⟨_, hci.1⟩ ⟨_, hci.2⟩) (flat m d) (table m d) (m (oLoc d)) (share c i) O W launch_facts (hpre d) hO).trans
    (wp_mono frame _ _ fun _ => owing_obl)

/-- A SparseCore's part is its tiles' parts, so it is dealt as it is. -/
theorem vecSplit : (K (F := F)).VecSplit' (P m) 0 := by
  intro d c
  show (CoreGiven m d c (m (oLoc d)) : sProp 𝕄) ⊢ |={Set.univ}=> iprop(CoreGiven m d c (m (oLoc d)) ∗ (CoreGiven m d c (rows m d) -∗ CoreGiven m d c (rows m d)))
  iintro H; imodintro
  isplitl [H]; · iexact H
  iintro H; iexact H

/-! ## The whole arrays and the tiles' parts -/

/-- An array all tiles read is their shares of it. -/
theorem shares_eq (ℓ : Loc nD τ sig) (f : Buf (Elt F) ℓ) :
    (ℓ ↦{fullShare} f : sProp 𝕄) = bigSep Finset.univ fun c : Fin 2 => bigSep Finset.univ fun i : Fin 16 => ℓ ↦{share c i} f := by
  rw [ShareLeaves.pointsTo_leaves Finset.univ f 1 fullShare]
  exact BI.bigSep_congr fun c _ => ShareLeaves.pointsTo_leaves Finset.univ f 4 _

/-- The result's rows are the tiles' chunks. -/
theorem chunks_eq (d : Dev nD) (f : Buf (Elt F) (oLoc d)) :
    (oLoc d ↦{fullShare} f : sProp 𝕄)
      = bigSep Finset.univ fun c : Fin 2 => bigSep Finset.univ fun i : Fin 16 => bigSep Finset.univ fun g : Fin 50 => PairAt d (at_ c i) g f := by
  have e : (oLoc d ↦{fullShare} f : sProp 𝕄)
      = bigSep Finset.univ fun p : Name4 => oLoc d ↦[outSet p.1 p.2.1 p.2.2.1 p.2.2.2]{fullShare} f := by
    rw [← pointsTo_biUnion Finset.univ (ℓ := oLoc d) (fun p : Name4 => outSet p.1 p.2.1 p.2.2.1 p.2.2.2) outSet_disjoint, outSet_cover]
  rw [e, bigSep_univ_prod]
  refine BI.bigSep_congr fun c _ => ?_
  rw [bigSep_univ_prod]
  refine BI.bigSep_congr fun i _ => ?_
  rw [bigSep_univ_prod]
  exact BI.bigSep_congr fun g _ => BI.bigSep_fin_two _

/-- The three arrays of the call are the SparseCores' parts. -/
theorem cores_eq (d : Dev nD) (f : Buf (Elt F) (oLoc d)) :
    (bigSep Finset.univ fun c : Fin 2 => CoreGiven m d c f : sProp 𝕄)
      = iprop((vLoc d ↦{fullShare} flat m d) ∗ (xLoc d ↦{fullShare} table m d) ∗ (oLoc d ↦{fullShare} f)) := by
  rw [shares_eq (vLoc d), shares_eq (xLoc d), chunks_eq, ← bigSep_sep', ← bigSep_sep']
  refine BI.bigSep_congr fun c _ => ?_
  rw [← bigSep_sep', ← bigSep_sep']
  rfl

/-! ## The launch element of the ghost state -/

def u₀ : UU := (initOf (K (F := F)).hsCells (K (F := F)).hsToks, 1)

theorem launch_ghost : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  have e : (bigSep Finset.univ fun thr : Thread nD τ => bigSep Finset.univ fun q : Fin 1 => (P (F := F) m).x q thr) = iprop(emp) :=
    (BI.bigSep_congr fun _ _ => bigSep_univ_of_subsingleton (0 : Fin 1)).trans (bigSep_emp_const _)
  have e' : (bigSep Finset.univ fun _ : Dev nD => iprop(emp) : sProp 𝕄) = iprop(emp) := bigSep_emp_const _
  rw [e, e']
  iintro Hu
  ihave H := (ownU_pair (initOf (K (F := F)).hsCells (K (F := F)).hsToks) (1 : Counters)) $$ Hu
  icases H with ⟨HH, -⟩
  imodintro
  isplitl [HH]; · iexact HH
  isplitr <;> iempintro

/-! ## @main on the TensorCore -/

abbrev aRef : DevRef τ sig := Proc.devRef .tc (main_arg0 : Ref sig .tc)
abbrev xRef : DevRef τ sig := Proc.devRef .tc (main_arg1 : Ref sig .tc)
abbrev vRef : DevRef τ sig := Proc.devRef .tc (main_v0 : Ref sig .tc)
abbrev oRef : DevRef τ sig := Proc.devRef .tc (main_v1 : Ref sig .tc)
abbrev rRef : DevRef τ sig := Proc.devRef .tc (main_v2 : Ref sig .tc)
abbrev aLoc (d : Dev nD) : Loc nD τ sig := (SparseCore.T d).loc main_arg0
abbrev rLoc (d : Dev nD) : Loc nD τ sig := (SparseCore.T d).loc main_v2

/-- The two reshapes. -/
abbrev opIn : HloOp τ sig (Elt F) := StableHlo.reshape main_arg0 main_v0 (rfl : (.i32 : EltTy) = .i32) shapeCasts_S4096x200_S819200
abbrev opOut : HloOp τ sig (Elt F) := StableHlo.reshape main_v1 main_v2 (rfl : (.f32 : EltTy) = .f32) shapeCasts_S819200x128_S4096x200x128

/-- @main's arrays. -/
abbrev arrays : Finset (DevRef τ sig) := {aRef, xRef, vRef, oRef, rRef}

omit [FloatOps F] in
theorem held_arrays (d : Dev nD) (V : Valuation τ sig (Elt F)) :
    (held (SparseCore.T d) arrays V : sProp 𝕄)
      = iprop((aLoc d ↦{fullShare} V aRef) ∗ (xLoc d ↦{fullShare} V xRef) ∗ (vLoc d ↦{fullShare} V vRef)
          ∗ (oLoc d ↦{fullShare} V oRef) ∗ rLoc d ↦{fullShare} V rRef) := by
  unfold held arrays
  rw [SparseCore.bigSep_insert' (by decide), SparseCore.bigSep_insert' (by decide), SparseCore.bigSep_insert' (by decide),
    SparseCore.bigSep_insert' (by decide), bigSep_singleton]

/-- The launch contents, and those after the call. -/
def V₀ (d : Dev nD) : Valuation τ sig (Elt F) := fun b => m (d, b)
def V₁ (d : Dev nD) : Valuation τ sig (Elt F) := Function.update ((opIn (F := F)).result (V₀ m d)) oRef (rows m d)

omit [FloatOps F] in
theorem unscoped_arrays (d : Dev nD) : (unscopedBufs d (fun b => m ((SparseCore.T d).loc b)) : sProp 𝕄) = held (SparseCore.T d) arrays (V₀ m d) := by
  rw [held_arrays]
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]
  rfl

/-- The first reshape writes the flattened indices and nothing else. -/
theorem in_v (d : Dev nD) : (opIn (F := F)).result (V₀ m d) vRef = flat m d := StableHlo.reshape_result _ _ _ _ _ _ _
theorem in_else (d : Dev nD) {b : DevRef τ sig} (h : b ∉ ({vRef} : Finset (DevRef τ sig))) : (opIn (F := F)).result (V₀ m d) b = m (d, b) :=
  (opIn (F := F)).result_of_not_mem _ h

/-- The arrays before the call. -/
theorem held_before (d : Dev nD) :
    (held (SparseCore.T d) arrays ((opIn (F := F)).result (V₀ m d)) : sProp 𝕄)
      = iprop((aLoc d ↦{fullShare} m (aLoc d)) ∗ (xLoc d ↦{fullShare} table m d) ∗ (vLoc d ↦{fullShare} flat m d)
          ∗ (oLoc d ↦{fullShare} m (oLoc d)) ∗ rLoc d ↦{fullShare} m (rLoc d)) := by
  rw [held_arrays, in_v, in_else m d (b := aRef) (by decide), in_else m d (b := xRef) (by decide), in_else m d (b := oRef) (by decide),
    in_else m d (b := rRef) (by decide)]

/-- The arrays after the call. -/
theorem held_after (d : Dev nD) :
    (held (SparseCore.T d) arrays (V₁ m d) : sProp 𝕄)
      = iprop((aLoc d ↦{fullShare} m (aLoc d)) ∗ (xLoc d ↦{fullShare} table m d) ∗ (vLoc d ↦{fullShare} flat m d)
          ∗ (oLoc d ↦{fullShare} rows m d) ∗ rLoc d ↦{fullShare} m (rLoc d)) := by
  unfold V₁
  rw [held_arrays, Function.update_self, Function.update_of_ne (show aRef ≠ oRef by decide), Function.update_of_ne (show xRef ≠ oRef by decide),
    Function.update_of_ne (show vRef ≠ oRef by decide), Function.update_of_ne (show rRef ≠ oRef by decide),
    in_v, in_else m d (b := aRef) (by decide), in_else m d (b := xRef) (by decide), in_else m d (b := rRef) (by decide)]

/-- What @main leaves: the arguments as they were and the result. -/
abbrev Final (d : Dev nD) : sProp 𝕄 :=
  iprop((aLoc d ↦{fullShare} m (aLoc d)) ∗ (xLoc d ↦{fullShare} table m d) ∗ rLoc d ↦{fullShare} result m d)

/-- The arrays after the second reshape, those the claims do not read dropped. -/
theorem held_final (d : Dev nD) : (held (SparseCore.T d) arrays ((opOut (F := F)).result (V₁ m d)) : sProp 𝕄) ⊢ Final m d := by
  have ho : V₁ m d oRef = rows m d := Function.update_self _ _ _
  have hr : (opOut (F := F)).result (V₁ m d) rRef = result m d :=
    (StableHlo.reshape_result _ _ _ _ _ _ _).trans (by unfold result; rw [← ho]; rfl)
  have ha : (opOut (F := F)).result (V₁ m d) aRef = m (aLoc d) :=
    ((opOut (F := F)).result_of_not_mem _ (show aRef ∉ ({rRef} : Finset (DevRef τ sig)) by decide)).trans
      ((Function.update_of_ne (show aRef ≠ oRef by decide) _ _).trans (in_else m d (by decide)))
  have hx : (opOut (F := F)).result (V₁ m d) xRef = table m d :=
    ((opOut (F := F)).result_of_not_mem _ (show xRef ∉ ({rRef} : Finset (DevRef τ sig)) by decide)).trans
      ((Function.update_of_ne (show xRef ≠ oRef by decide) _ _).trans (in_else m d (by decide)))
  rw [held_arrays, hr, ha, hx]
  iintro ⟨Ha, Hx, -, -, Hr⟩
  isplitl [Ha]; · iexact Ha
  isplitl [Hx]; · iexact Hx
  iexact Hr

theorem in_sub : (opIn (F := F)).bufs ⊆ arrays := show ({aRef, vRef} : Finset (DevRef τ sig)) ⊆ arrays by decide
theorem out_sub : (opOut (F := F)).bufs ⊆ arrays := show ({oRef, rRef} : Finset (DevRef τ sig)) ⊆ arrays by decide

/-- @main on device `d`'s TensorCore: the indices flattened, the call, the rows reshaped. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ Final m d ∗ (K (F := F)).tcEnd d) := by
  unfold SparseCore.Cfg.tcRes SparseCore.Cfg.tcEnd
  rw [unscoped_arrays]
  simp only [main, wp_bind, wp_pure]
  iintro ⟨#Hctx, Hst, ⟨Hb, Hheld, Hts, -⟩, -⟩
  iapply (wp_hlo_within 𝒱 (SparseCore.T d) none Set.univ (op := opIn) (S := arrays) in_sub (V := V₀ m d)) $$ [Hb Hheld]
  · isplitl [Hb] <;> iassumption
  iintro ⟨Hb, Hheld⟩
  rw [wp_ret]; imodintro
  ihave Hh := (Entails.of_eq (held_before m d)) $$ Hheld
  icases Hh with ⟨Ha, Hx, Hv, Ho, Hr⟩
  iapply ((K (F := F)).wp_run (D (F := F)) 𝒱 (EH := EH) (P := P m) κ d 0) $$ [Hst Ha Hx Hv Ho Hr Hb Hts]
  isplitr; · iexact Hctx
  isplitl [Hst]; · iexact Hst
  isplitl [Hx Hv Ho]
  · iapply (Entails.of_eq (cores_eq m d (m (oLoc d))).symm)
    isplitl [Hv]; · iexact Hv
    isplitl [Hx]; · iexact Hx
    iexact Ho
  iintro ⟨Hst, Hdn⟩
  ihave Hdn := (show (bigSep Finset.univ fun c => (P m).dn 0 d c : sProp 𝕄) ⊢ _ from Entails.of_eq (cores_eq m d (rows m d))) $$ Hdn
  icases Hdn with ⟨Hv, Hx, Ho⟩
  iapply (wp_hlo_within 𝒱 (SparseCore.T d) none Set.univ (op := opOut) (S := arrays) out_sub (V := V₁ m d)) $$ [Hb Ha Hx Hv Ho Hr]
  · isplitl [Hb]; · iexact Hb
    rw [held_after]
    isplitl [Ha]; · iexact Ha
    isplitl [Hx]; · iexact Hx
    isplitl [Hv]; · iexact Hv
    isplitl [Ho]; · iexact Ho
    iexact Hr
  iintro ⟨Hb, Hheld⟩
  ihave Hf := (held_final m d) $$ Hheld
  rw [wp_ret]; imodintro; imodintro
  isplitl [Hst]; · iexact Hst
  isplitl [Hf]; · iexact Hf
  isplitl [Hb] <;> iassumption

/-! ## The run -/

/-- What the claims read of device `d`'s final state. -/
def Reads (d : Dev nD) (mem : (ℓ : Loc nD τ sig) → Buf (Elt F) ℓ) : Prop :=
  mem (rLoc d) = result m d ∧ mem (aLoc d) = m (aLoc d) ∧ mem (xLoc d) = m (xLoc d)

/-- An array held whole is the state's. -/
theorem reads_one {ℓ : Loc nD τ sig} {f : Buf (Elt F) ℓ} {s' : Phys nD τ sig (Elt F)} :
    iprop((ℓ ↦{fullShare} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr; · ipureintro; exact funext fun i => h i (Finset.mem_univ i)
  iexact HSI

theorem hfin (d : Dev nD) (s' : Phys nD τ sig (Elt F)) : iprop(Final m d ∗ SI s') ⊢ (⌜Reads m d s'.mem.mem⌝ : sProp 𝕄) := by
  iintro ⟨⟨Ha, Hx, Hr⟩, HSI⟩
  ihave H := reads_one $$ [Ha HSI]
  · isplitl [Ha] <;> iassumption
  icases H with ⟨%ha, HSI⟩
  ihave H := reads_one $$ [Hx HSI]
  · isplitl [Hx] <;> iassumption
  icases H with ⟨%hx, HSI⟩
  ihave H := reads_one $$ [Hr HSI]
  · isplitl [Hr] <;> iassumption
  icases H with ⟨%hr, -⟩
  ipureintro; exact ⟨hr, ha, hx⟩

/-- THE RUN: every device ends with the gathered rows in its result, its arguments unchanged, and every counter at zero. -/
theorem run_main [∀ e, Nonempty (Elt F e)] (hpre : PreOK m) :
    θ_run (Cert.KernelIdeal.defs (F := F)) (Cert.KernelIdeal.threads (F := F)) ⟨m, fun _ => 0, ρ⟩
      fun r => (∀ d, Reads m d r.2.mem) ∧ r.2.sem = fun _ => 0 :=
  SparseCore.Cfg.θ_run_sc_quiescent (K := K (F := F)) (D := D (F := F)) (𝒱 := 𝒱) (EH := EH) (P := P m) (A := ∅) launch_facts v₀
    (fun q hq => match q with | 0 => nomatch hq)
    (fun q _ => match q with | 0 => tileObl m hpre)
    (fun q _ => match q with | 0 => SparseCore.Cfg.VecSplit.of_plain (vecSplit m))
    m ρ main (fun _ => iprop(emp)) (Final m) (u₀ (F := F)) (sep_elim_left.trans (launch_ghost m)) (hmain m ρ) (fun d s' => Reads m d s'.mem.mem) (hfin m)
    (fun r => (∀ d, Reads m d r.2.mem) ∧ r.2.sem = fun _ => 0) (fun _ h hz => ⟨h, hz⟩)

end Cert.Proof.KernelIdeal

end
-- ==== Proof.KernelIdealValue.lean ====
/-
  The kernel's result as the mathematics says it: flattening the indices, gathering rows and giving the rows their shape takes the table's rows
  at the indices; and the program's run with that result.
-/
module

public import proofs.«01_k».proof.Proof.KernelIdealLaunch
public import proofs.«01_k».proof.Proof.Take

@[expose] public section

noncomputable section

namespace Cert.Proof.KernelIdeal

open Cert.KernelIdeal Cert.KernelIdeal.Gen
open Idealize.ShloMosaic Idealize.SL.Sem

variable {F : FTy → Type} [FloatOps F]
variable (m : (ℓ : Loc nD τ sig) → Buf (Elt F) ℓ) (ρ : Dev nD → PrngReg)

/-- Place `200 a + b` of the flattened indices is index `(a, b)`. -/
theorem flat_nth (d : Dev nD) (a : Fin 4096) (b : Fin 200) (n : Fin 819200) (hn : n.val = a.val * 200 + b.val) :
    flat m d (nth n) = m (aLoc d) (Take.place a b) := by
  have e : Shape.reshapeEquiv shapeCasts_S4096x200_S819200 (nth n) = Take.place a b := by
    refine Shape.reshapeEquiv_eq_of_rowMajor _ ?_
    rw [Shape.rowMajor_val_one, Shape.rowMajor_val_two]
    exact hn.symm
  exact congrArg (m (aLoc d)) e

/-- The kernel's result is the rows of its table taken at its indices. -/
theorem result_take (d : Dev nD) : result m d = Take.take (F := F) (m (aLoc d)) (m (xLoc d)) := by
  funext y
  have h₀ : (y 0).val < 4096 := (y 0).isLt
  have h₁ : (y 1).val < 200 := (y 1).isLt
  let z : S819200x128.Idx := fun | 0 => ⟨(y 0).val * 200 + (y 1).val, by show _ < 819200; omega⟩ | 1 => y 2
  have e : Shape.reshapeEquiv shapeCasts_S819200x128_S4096x200x128 y = z := by
    refine Shape.reshapeEquiv_eq_of_rowMajor _ ?_
    rw [Shape.rowMajor_val_two, Shape.rowMajor_val_three]
    rfl
  show gath (flat m d) (table m d) (Shape.reshapeEquiv shapeCasts_S819200x128_S4096x200x128 y) = _
  rw [e]
  show table m d _ = table m d _
  congr 1
  funext a
  match a with
  | 0 =>
    show rowAt (flat m d (nth (z 0))) = _
    rw [flat_nth m d (y 0) (y 1) (z 0) rfl]
    rfl
  | 1 => rfl

/-- THE RUN ON THE PRECONDITION: where every index is in the table's range, every device ends with the rows taken in its result, its arguments
    unchanged, and every counter at zero. -/
theorem run_take [∀ e, Nonempty (Elt F e)]
    (hpre : ∀ d, Cert.Pre_in_vocab.fn (F := F) (m (aLoc d)) (m (xLoc d)) = fun _ => 1#1) :
    θ_run (Cert.KernelIdeal.defs (F := F)) (Cert.KernelIdeal.threads (F := F)) ⟨m, fun _ => 0, ρ⟩
      fun r => (∀ d, r.2.mem (rLoc d) = Take.take (F := F) (m (aLoc d)) (m (xLoc d)) ∧ r.2.mem (aLoc d) = m (aLoc d)
        ∧ r.2.mem (xLoc d) = m (xLoc d)) ∧ r.2.sem = fun _ => 0 :=
  (θ_run _ _ _).mono (fun _ h => ⟨fun d => ⟨(h.1 d).1.trans (result_take m d), (h.1 d).2⟩, h.2⟩)
    (run_main m ρ fun d _ => Take.small_of_pre (F := F) (m (aLoc d)) (m (xLoc d)) (hpre d) _)

end Cert.Proof.KernelIdeal

end
-- ==== Proof.ReferenceIdealRun.lean ====
/-
  The reference's runs: from any memory it ends with its arguments unchanged and no counter raised, and where every index is in range its
  result is the rows taken.
-/
module

public import proofs.«01_k».proof.Proof.Take
public import proofs.«01_k».proof.Proof.Gen.ReferenceIdeal.Run
public import Idealize.ShloMosaic.Lib.Quiescent

@[expose] public section

noncomputable section

namespace Cert.Proof.ReferenceIdeal

open Cert.ReferenceIdeal Cert.ReferenceIdeal.Gen
open Idealize.ShloMosaic Idealize.SL.Sem

variable {F : FTy → Type} [FloatOps F]
variable (m : (ℓ : Loc nD τ sig) → Buf (Elt F) ℓ) (ρ : Dev nD → PrngReg)

abbrev aLoc (c : Dev nD) : Loc nD τ sig := (c.tc : Thread nD τ).loc main_arg0
abbrev xLoc (c : Dev nD) : Loc nD τ sig := (c.tc : Thread nD τ).loc main_arg1
abbrev rLoc (c : Dev nD) : Loc nD τ sig := (c.tc : Thread nD τ).loc main_v0

/-- The reference leaves its arguments and every counter as they were. -/
theorem run_frame : θ_run (defs (F := F)) (onTc (τ := τ) (main (F := F))) ⟨m, fun _ => 0, ρ⟩
    fun r => (∀ c : Dev nD, r.2.mem (aLoc c) = m (aLoc c) ∧ r.2.mem (xLoc c) = m (xLoc c)) ∧ r.2.sem = fun _ => 0 :=
  (θ_run _ _ _).mono (fun r h => ⟨fun c => (h c).2, sem_eq_zero_of_no_sems rfl r.2⟩) (Cert.ReferenceIdeal.Value.run m ρ)

/-- Where every index is in range, the reference's result is the rows of its table taken at its indices. -/
theorem run_take (hI : ∀ c y, (m (aLoc c) y : BitVec 32).toNat < 100000) :
    θ_run (defs (F := F)) (onTc (τ := τ) (main (F := F))) ⟨m, fun _ => 0, ρ⟩
      fun r => ∀ c : Dev nD, r.2.mem (rLoc c) = Take.take (F := F) (m (aLoc c)) (m (xLoc c)) ∧ r.2.mem (aLoc c) = m (aLoc c)
        ∧ r.2.mem (xLoc c) = m (xLoc c) :=
  (θ_run _ _ _).mono (fun _ h c => ⟨(h c).1.trans (Take.reference_take (F := F) (m (aLoc c)) (hI c) (m (xLoc c)) _), (h c).2⟩)
    (Cert.ReferenceIdeal.Value.run m ρ)

end Cert.Proof.ReferenceIdeal

end
-- ==== Proof.lean ====
/-
  The claims: each program's frame, and the two value claims, from the programs' runs with their results.
-/
module

public import proofs.«01_k».proof.Defs
public import proofs.«01_k».proof.Proof.KernelValue
public import proofs.«01_k».proof.Proof.KernelIdealValue
public import proofs.«01_k».proof.Proof.ReferenceRun
public import proofs.«01_k».proof.Proof.ReferenceIdealRun

@[expose] public section

noncomputable section

namespace Cert.Proof

open Idealize.ShloMosaic Idealize.SL.Sem

/-- The kernel, where its indices are in range, runs and leaves its arguments and every counter as they were. -/
theorem frame_kernel : Cert.quiescent_Kernel := fun m g hpre =>
  (θ_run _ _ _).mono (fun _ h => ⟨fun c => (h.1 c).2, h.2⟩) (Kernel.run_take (F := Bits) m g hpre)

/-- The same of the kernel read over the reals. -/
theorem frame_kernelIdeal : Cert.quiescent_KernelIdeal := fun m g hpre =>
  (θ_run _ _ _).mono (fun _ h => ⟨fun c => (h.1 c).2, h.2⟩) (KernelIdeal.run_take (F := Ideal) m g hpre)

/-- The kernel and the reference leave the same words: the rows of the table taken at the indices. -/
theorem same_words : Cert.bitexact_Kernel_Reference := fun m g m' g' hpre hm =>
  ⟨fun c => Take.take (F := Bits) (m (Kernel.aLoc c)) (m (Kernel.xLoc c)),
    (θ_run _ _ _).mono (fun _ h => h.1) (Kernel.run_take (F := Bits) m g hpre),
    (θ_run _ _ _).mono
      (fun _ h c => ⟨(h c).1.trans (congrArg₂ (Take.take (F := Bits)) (hm c).1 (hm c).2), (h c).2⟩)
      (Reference.run_take (F := Bits) m' g' fun c y => by
        rw [show m' (Reference.aLoc c) = _ from (hm c).1]
        exact Take.small_of_pre (F := Bits) _ _ (hpre c) y)⟩

/-- Read over the reals, the kernel and the reference leave the same numbers. -/
theorem same_numbers : Cert.algebraic_KernelIdeal_ReferenceIdeal := fun m g m' g' hpre hm =>
  ⟨fun c => Take.take (F := Ideal) (m (KernelIdeal.aLoc c)) (m (KernelIdeal.xLoc c)),
    (θ_run _ _ _).mono (fun _ h => h.1) (KernelIdeal.run_take (F := Ideal) m g hpre),
    (θ_run _ _ _).mono
      (fun _ h c => ⟨(h c).1.trans (congrArg₂ (Take.take (F := Ideal)) (hm c).1 (hm c).2), (h c).2⟩)
      (ReferenceIdeal.run_take (F := Ideal) m' g' fun c y => by
        rw [show m' (ReferenceIdeal.aLoc c) = _ from (hm c).1]
        exact Take.small_of_pre (F := Ideal) _ _ (hpre c) y)⟩

/-- Everything claimed. -/
theorem claim : Cert.Claim :=
  ⟨Cert.Kernel.Gen.facts, Cert.KernelIdeal.Gen.facts, Cert.Reference.Gen.facts, Cert.ReferenceIdeal.Gen.facts, Cert.Pre_in_vocab.Gen.facts,
    frame_kernel, frame_kernelIdeal, fun m g _ => Reference.run_frame m g, fun m g _ => Reference.run_frame m g,
    fun m g _ => ReferenceIdeal.run_frame m g, fun m g _ => ReferenceIdeal.run_frame m g, trivial, same_numbers, same_words⟩

end Cert.Proof

end
